-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mlp_finite [hPre_mlp_finite : Cert.Pre_mlp_finite.Facts] (m : (ℓ : Loc Cert.KernelIdeal.nD Cert.KernelIdeal.τ Cert.KernelIdeal.sig) → Buf (Elt Ideal) ℓ) : Prop :=
  ∀ c : Dev Cert.KernelIdeal.nD,
    (Cert.Pre_mlp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_mlp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.1 = (fun _ => 1#1)
    ∧ (Cert.Pre_mlp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.1 = (fun _ => 1#1)
    ∧ (Cert.Pre_mlp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.1 = (fun _ => 1#1)
    ∧ (Cert.Pre_mlp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.1 = (fun _ => 1#1)
    ∧ (Cert.Pre_mlp_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mlp_finite [hPre_mlp_finite : Cert.Pre_mlp_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mlp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_mlp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.1 = (fun _ => 1#1)
    ∧ (Cert.Pre_mlp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.1 = (fun _ => 1#1)
    ∧ (Cert.Pre_mlp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.1 = (fun _ => 1#1)
    ∧ (Cert.Pre_mlp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.1 = (fun _ => 1#1)
    ∧ (Cert.Pre_mlp_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_mlp_finite [hKernelIdeal : Cert.KernelIdeal.Facts] [hPre_mlp_finite : Cert.Pre_mlp_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mlp_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_mlp_finite [hReferenceIdeal : Cert.ReferenceIdeal.Facts] [hPre_mlp_finite : Cert.Pre_mlp_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mlp_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_mlp_finite [hKernelIdeal : Cert.KernelIdeal.Facts] [hReferenceIdeal : Cert.ReferenceIdeal.Facts] [hPre_mlp_finite : Cert.Pre_mlp_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mlp_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v410) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_mlp_finite : Cert.Pre_mlp_finite.Facts),
    quiescent_Kernel (hKernel := hKernel)
    ∧ quiescent_KernelIdeal (hKernelIdeal := hKernelIdeal)
    ∧ quiescent_KernelIdeal_pre_mlp_finite (hKernelIdeal := hKernelIdeal) (hPre_mlp_finite := hPre_mlp_finite)
    ∧ quiescent_ReferenceIdeal (hReferenceIdeal := hReferenceIdeal)
    ∧ quiescent_ReferenceIdeal_pre_mlp_finite (hReferenceIdeal := hReferenceIdeal) (hPre_mlp_finite := hPre_mlp_finite)
    ∧ preserves_Kernel_KernelIdeal
    ∧ algebraic_KernelIdeal_ReferenceIdeal_pre_mlp_finite (hKernelIdeal := hKernelIdeal) (hReferenceIdeal := hReferenceIdeal) (hPre_mlp_finite := hPre_mlp_finite)
-- ==== Pre_mlp_finite.lean ====
abbrev S10000x128 : Shape := ⟨2, ![10000, 128]⟩
abbrev S2x320000 : Shape := ⟨2, ![2, 320000]⟩
abbrev S10000 : Shape := ⟨1, ![10000]⟩
abbrev S9 : Shape := ⟨1, ![9]⟩
abbrev S128x64 : Shape := ⟨2, ![128, 64]⟩
abbrev S64 : Shape := ⟨1, ![64]⟩
abbrev S64x8 : Shape := ⟨2, ![64, 8]⟩
abbrev S8 : Shape := ⟨1, ![8]⟩
abbrev S16 : Shape := ⟨1, ![16]⟩
abbrev S16x2 : Shape := ⟨2, ![16, 2]⟩
abbrev S2x16 : Shape := ⟨2, ![2, 16]⟩
abbrev S1 : Shape := ⟨1, ![1]⟩
abbrev S640x128 : Shape := ⟨2, ![640, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  bcast_S_S128x64 : S_.BroadcastsInDim S128x64 (![] : Fin 0 → Fin S128x64.rank)
  bcast_S_S64 : S_.BroadcastsInDim S64 (![] : Fin 0 → Fin S64.rank)
  bcast_S_S64x8 : S_.BroadcastsInDim S64x8 (![] : Fin 0 → Fin S64x8.rank)
  bcast_S_S8 : S_.BroadcastsInDim S8 (![] : Fin 0 → Fin S8.rank)
  bcast_S_S2x16 : S_.BroadcastsInDim S2x16 (![] : Fin 0 → Fin S2x16.rank)

variable [Facts]

def fn {F : FTy → Type} [FloatOps F] (main_arg0 : FVec F S10000x128 .f32) (main_arg1 : IVec S2x320000 32) (main_arg2 : IVec S10000 32) (main_arg3 : IVec S9 32) (main_arg4 : FVec F S128x64 .f32) (main_arg5 : FVec F S64 .f32) (main_arg6 : FVec F S64x8 .f32) (main_arg7 : FVec F S8 .f32) (main_arg8 : FVec F S16 .f32) (main_arg9 : FVec F S16x2 .f32) (main_arg10 : FVec F S2x16 .f32) (main_arg11 : FVec F S16 .f32) (main_arg12 : FVec F S16x2 .f32) (main_arg13 : FVec F S1 .f32) (main_arg14 : FVec F S640x128 .f32) (main_arg15 : FVec F S128 .f32) : IVec S10000x128 1 × IVec S128x64 1 × IVec S64 1 × IVec S64x8 1 × IVec S8 1 × IVec S2x16 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_v3 : FVec F S128x64 .f32 := Host.absf main_arg4
  let main_cst_0 : FVec F S_ .f32 := constant S_ .f32 0x7F800000#32
  let main_v4 : FVec F S128x64 .f32 := broadcastInDim S128x64 ![] bcast_S_S128x64 main_cst_0
  let main_v5 : IVec S128x64 1 := cmpf .olt main_v3 main_v4
  let main_v6 : FVec F S64 .f32 := Host.absf main_arg5
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x8 .f32 := Host.absf main_arg6
  let main_cst_2 : FVec F S_ .f32 := constant S_ .f32 0x7F800000#32
  let main_v10 : FVec F S64x8 .f32 := broadcastInDim S64x8 ![] bcast_S_S64x8 main_cst_2
  let main_v11 : IVec S64x8 1 := cmpf .olt main_v9 main_v10
  let main_v12 : FVec F S8 .f32 := Host.absf main_arg7
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  let main_v15 : FVec F S2x16 .f32 := Host.absf main_arg10
  let main_cst_4 : FVec F S_ .f32 := constant S_ .f32 0x7F800000#32
  let main_v16 : FVec F S2x16 .f32 := broadcastInDim S2x16 ![] bcast_S_S2x16 main_cst_4
  let main_v17 : IVec S2x16 1 := cmpf .olt main_v15 main_v16
  (main_v2, main_v5, main_v8, main_v11, main_v14, main_v17)
-- ==== Kernel.lean ====
abbrev S10000x128 : Shape := ⟨2, ![10000, 128]⟩
abbrev S2x320000 : Shape := ⟨2, ![2, 320000]⟩
abbrev S10000 : Shape := ⟨1, ![10000]⟩
abbrev S9 : Shape := ⟨1, ![9]⟩
abbrev S128x64 : Shape := ⟨2, ![128, 64]⟩
abbrev S64 : Shape := ⟨1, ![64]⟩
abbrev S64x8 : Shape := ⟨2, ![64, 8]⟩
abbrev S8 : Shape := ⟨1, ![8]⟩
abbrev S16 : Shape := ⟨1, ![16]⟩
abbrev S16x2 : Shape := ⟨2, ![16, 2]⟩
abbrev S2x16 : Shape := ⟨2, ![2, 16]⟩
abbrev S1 : Shape := ⟨1, ![1]⟩
abbrev S640x128 : Shape := ⟨2, ![640, 128]⟩
abbrev S128 : Shape := ⟨1, ![128]⟩
abbrev S1x16 : Shape := ⟨2, ![1, 16]⟩
abbrev S1x1 : Shape := ⟨2, ![1, 1]⟩
abbrev S9x16 : Shape := ⟨2, ![9, 16]⟩
abbrev S1x64 : Shape := ⟨2, ![1, 64]⟩
abbrev S1x8 : Shape := ⟨2, ![1, 8]⟩
abbrev S1x128 : Shape := ⟨2, ![1, 128]⟩
abbrev S2000x128 : Shape := ⟨2, ![2000, 128]⟩
abbrev S512x128 : Shape := ⟨2, ![512, 128]⟩
abbrev S9x128 : Shape := ⟨2, ![9, 128]⟩
abbrev S64x128 : Shape := ⟨2, ![64, 128]⟩
abbrev S512x512 : Shape := ⟨2, ![512, 512]⟩
abbrev S8x128 : Shape := ⟨2, ![8, 128]⟩
abbrev S16x128 : Shape := ⟨2, ![16, 128]⟩
abbrev S2000x64 : Shape := ⟨2, ![2000, 64]⟩
abbrev S128x128 : Shape := ⟨2, ![128, 128]⟩

abbrev nBuf : Space → Nat
  | .hbm => 27
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S10000, .i32⟩
  | .hbm, ⟨3, _⟩ => ⟨S9, .i32⟩
  | .hbm, ⟨4, _⟩ => ⟨S128x64, .f32⟩
  | .hbm, ⟨5, _⟩ => ⟨S64, .f32⟩
  | .hbm, ⟨6, _⟩ => ⟨S64x8, .f32⟩
  | .hbm, ⟨7, _⟩ => ⟨S8, .f32⟩
  | .hbm, ⟨8, _⟩ => ⟨S16, .f32⟩
  | .hbm, ⟨9, _⟩ => ⟨S16x2, .f32⟩
  | .hbm, ⟨10, _⟩ => ⟨S2x16, .f32⟩
  | .hbm, ⟨11, _⟩ => ⟨S16, .f32⟩
  | .hbm, ⟨12, _⟩ => ⟨S16x2, .f32⟩
  | .hbm, ⟨13, _⟩ => ⟨S1, .f32⟩
  | .hbm, ⟨14, _⟩ => ⟨S640x128, .f32⟩
  | .hbm, ⟨15, _⟩ => ⟨S128, .f32⟩
  | .hbm, ⟨16, _⟩ => ⟨S1x16, .f32⟩
  | .hbm, ⟨17, _⟩ => ⟨S2x16, .f32⟩
  | .hbm, ⟨18, _⟩ => ⟨S1x16, .f32⟩
  | .hbm, ⟨19, _⟩ => ⟨S2x16, .f32⟩
  | .hbm, ⟨20, _⟩ => ⟨S1x1, .f32⟩
  | .hbm, ⟨21, _⟩ => ⟨S1x16, .f32⟩
  | .hbm, ⟨22, _⟩ => ⟨S9x16, .f32⟩
  | .hbm, ⟨23, _⟩ => ⟨S1x64, .f32⟩
  | .hbm, ⟨24, _⟩ => ⟨S1x8, .f32⟩
  | .hbm, ⟨25, _⟩ => ⟨S1x128, .f32⟩
  | .hbm, ⟨26, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S64x8, .f32⟩
  | .local _ .vmem, ⟨5, _⟩ => ⟨S1x8, .f32⟩
  | .local _ .vmem, ⟨6, _⟩ => ⟨S9x16, .f32⟩
  | .local _ .vmem, ⟨7, _⟩ => ⟨S640x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S512x128, .f32⟩
  | .local _ .vmem, ⟨12, _⟩ => ⟨S9x128, .f32⟩
  | .local _ .vmem, ⟨13, _⟩ => ⟨S64x128, .f32⟩
  | .local _ .vmem, ⟨14, _⟩ => ⟨S1x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S10000x128 : Shape := ⟨2, ![10000, 128]⟩
abbrev S2x320000 : Shape := ⟨2, ![2, 320000]⟩
abbrev S10000 : Shape := ⟨1, ![10000]⟩
abbrev S9 : Shape := ⟨1, ![9]⟩
abbrev S128x64 : Shape := ⟨2, ![128, 64]⟩
abbrev S64 : Shape := ⟨1, ![64]⟩
abbrev S64x8 : Shape := ⟨2, ![64, 8]⟩
abbrev S8 : Shape := ⟨1, ![8]⟩
abbrev S16 : Shape := ⟨1, ![16]⟩
abbrev S16x2 : Shape := ⟨2, ![16, 2]⟩
abbrev S2x16 : Shape := ⟨2, ![2, 16]⟩
abbrev S1 : Shape := ⟨1, ![1]⟩
abbrev S640x128 : Shape := ⟨2, ![640, 128]⟩
abbrev S128 : Shape := ⟨1, ![128]⟩
abbrev S10000x64 : Shape := ⟨2, ![10000, 64]⟩
abbrev S1x64 : Shape := ⟨2, ![1, 64]⟩
abbrev S_ : Shape := ⟨0, ![]⟩
abbrev S10000x8 : Shape := ⟨2, ![10000, 8]⟩
abbrev S1x8 : Shape := ⟨2, ![1, 8]⟩
abbrev S10000x8x1 : Shape := ⟨3, ![10000, 8, 1]⟩
abbrev S10000x8x2 : Shape := ⟨3, ![10000, 8, 2]⟩
abbrev S8x10000x2 : Shape := ⟨3, ![8, 10000, 2]⟩
abbrev S1x10000x2 : Shape := ⟨3, ![1, 10000, 2]⟩
abbrev S10000x2 : Shape := ⟨2, ![10000, 2]⟩
abbrev S10000x1 : Shape := ⟨2, ![10000, 1]⟩
abbrev S1x16 : Shape := ⟨2, ![1, 16]⟩
abbrev S10000x16 : Shape := ⟨2, ![10000, 16]⟩
abbrev S10000x1x2 : Shape := ⟨3, ![10000, 1, 2]⟩
abbrev S1x16x2 : Shape := ⟨3, ![1, 16, 2]⟩
abbrev S10000x16x2 : Shape := ⟨3, ![10000, 16, 2]⟩
abbrev S10000x512 : Shape := ⟨2, ![10000, 512]⟩
abbrev S10000x640 : Shape := ⟨2, ![10000, 640]⟩
abbrev S1x128 : Shape := ⟨2, ![1, 128]⟩

abbrev nBuf : Space → Nat
  | .hbm => 503
  | .vmem => 0
  | .smem => 0
  | _ => 0

abbrev hbmTy0_0 (i : Nat) : BufTy := match i % 128 with
  | 0 => ⟨S10000x128, .f32⟩
  | 1 => ⟨S2x320000, .i32⟩
  | 2 => ⟨S10000, .i32⟩
  | 3 => ⟨S9, .i32⟩
  | 4 => ⟨S128x64, .f32⟩
  | 5 => ⟨S64, .f32⟩
  | 6 => ⟨S64x8, .f32⟩
  | 7 => ⟨S8, .f32⟩
  | 8 => ⟨S16, .f32⟩
  | 9 => ⟨S16x2, .f32⟩
  | 10 => ⟨S2x16, .f32⟩
  | 11 => ⟨S16, .f32⟩
  | 12 => ⟨S16x2, .f32⟩
  | 13 => ⟨S1, .f32⟩
  | 14 => ⟨S640x128, .f32⟩
  | 15 => ⟨S128, .f32⟩
  | 16 => ⟨S10000x64, .f32⟩
  | 17 => ⟨S1x64, .f32⟩
  | 18 => ⟨S10000x64, .f32⟩
  | 19 => ⟨S10000x64, .f32⟩
  | 20 => ⟨S_, .f32⟩
  | 21 => ⟨S10000x64, .f32⟩
  | 22 => ⟨S10000x64, .f32⟩
  | 23 => ⟨S10000x8, .f32⟩
  | 24 => ⟨S1x8, .f32⟩
  | 25 => ⟨S10000x8, .f32⟩
  | 26 => ⟨S10000x8, .f32⟩
  | 27 => ⟨S10000x8x1, .f32⟩
  | 28 => ⟨S10000x8x2, .f32⟩
  | 29 => ⟨S8x10000x2, .f32⟩
  | 30 => ⟨S1x10000x2, .f32⟩
  | 31 => ⟨S10000x2, .f32⟩
  | 32 => ⟨S10000x1, .f32⟩
  | 33 => ⟨S10000x1, .f32⟩
  | 34 => ⟨S1x16, .f32⟩
  | 35 => ⟨S10000x16, .f32⟩
  | 36 => ⟨S10000x16, .f32⟩
  | 37 => ⟨S10000x16, .f32⟩
  | 38 => ⟨S10000x16, .f32⟩
  | 39 => ⟨S10000x16, .f32⟩
  | 40 => ⟨S10000x16, .f32⟩
  | 41 => ⟨S_, .f32⟩
  | 42 => ⟨S10000x16, .f32⟩
  | 43 => ⟨S10000x16, .f32⟩
  | 44 => ⟨S10000x1x2, .f32⟩
  | 45 => ⟨S1x16x2, .f32⟩
  | 46 => ⟨S10000x16x2, .f32⟩
  | 47 => ⟨S10000x16x2, .f32⟩
  | 48 => ⟨S10000x16x2, .f32⟩
  | 49 => ⟨S10000x16x2, .f32⟩
  | 50 => ⟨S_, .f32⟩
  | 51 => ⟨S10000x16, .f32⟩
  | 52 => ⟨S10000x16, .f32⟩
  | 53 => ⟨S_, .f32⟩
  | 54 => ⟨S10000x16, .f32⟩
  | 55 => ⟨S10000x16, .f32⟩
  | 56 => ⟨S10000x16, .f32⟩
  | 57 => ⟨S10000x16, .f32⟩
  | 58 => ⟨S1x16, .f32⟩
  | 59 => ⟨S10000x16, .f32⟩
  | 60 => ⟨S10000x16, .f32⟩
  | 61 => ⟨S10000x1x2, .f32⟩
  | 62 => ⟨S1x16x2, .f32⟩
  | 63 => ⟨S10000x16x2, .f32⟩
  | 64 => ⟨S10000x16x2, .f32⟩
  | 65 => ⟨S10000x16x2, .f32⟩
  | 66 => ⟨S10000x16x2, .f32⟩
  | 67 => ⟨S_, .f32⟩
  | 68 => ⟨S10000x16, .f32⟩
  | 69 => ⟨S_, .f32⟩
  | 70 => ⟨S10000x16, .f32⟩
  | 71 => ⟨S10000x16, .f32⟩
  | 72 => ⟨S_, .f32⟩
  | 73 => ⟨S10000x16, .f32⟩
  | 74 => ⟨S10000x16, .f32⟩
  | 75 => ⟨S_, .f32⟩
  | 76 => ⟨S_, .f32⟩
  | 77 => ⟨S10000x16, .f32⟩
  | 78 => ⟨S10000x16, .f32⟩
  | 79 => ⟨S10000x16, .f32⟩
  | 80 => ⟨S_, .f32⟩
  | 81 => ⟨S10000x16, .f32⟩
  | 82 => ⟨S10000x16, .f32⟩
  | 83 => ⟨S_, .f32⟩
  | 84 => ⟨S10000x16, .f32⟩
  | 85 => ⟨S10000x16, .f32⟩
  | 86 => ⟨S10000x16, .f32⟩
  | 87 => ⟨S10000x64, .f32⟩
  | 88 => ⟨S1x10000x2, .f32⟩
  | 89 => ⟨S10000x2, .f32⟩
  | 90 => ⟨S10000x1, .f32⟩
  | 91 => ⟨S10000x1, .f32⟩
  | 92 => ⟨S1x16, .f32⟩
  | 93 => ⟨S10000x16, .f32⟩
  | 94 => ⟨S10000x16, .f32⟩
  | 95 => ⟨S10000x16, .f32⟩
  | 96 => ⟨S10000x16, .f32⟩
  | 97 => ⟨S10000x16, .f32⟩
  | 98 => ⟨S10000x16, .f32⟩
  | 99 => ⟨S_, .f32⟩
  | 100 => ⟨S10000x16, .f32⟩
  | 101 => ⟨S10000x16, .f32⟩
  | 102 => ⟨S10000x1x2, .f32⟩
  | 103 => ⟨S1x16x2, .f32⟩
  | 104 => ⟨S10000x16x2, .f32⟩
  | 105 => ⟨S10000x16x2, .f32⟩
  | 106 => ⟨S10000x16x2, .f32⟩
  | 107 => ⟨S10000x16x2, .f32⟩
  | 108 => ⟨S_, .f32⟩
  | 109 => ⟨S10000x16, .f32⟩
  | 110 => ⟨S10000x16, .f32⟩
  | 111 => ⟨S_, .f32⟩
  | 112 => ⟨S10000x16, .f32⟩
  | 113 => ⟨S10000x16, .f32⟩
  | 114 => ⟨S10000x16, .f32⟩
  | 115 => ⟨S10000x16, .f32⟩
  | 116 => ⟨S1x16, .f32⟩
  | 117 => ⟨S10000x16, .f32⟩
  | 118 => ⟨S10000x16, .f32⟩
  | 119 => ⟨S10000x1x2, .f32⟩
  | 120 => ⟨S1x16x2, .f32⟩
  | 121 => ⟨S10000x16x2, .f32⟩
  | 122 => ⟨S10000x16x2, .f32⟩
  | 123 => ⟨S10000x16x2, .f32⟩
  | 124 => ⟨S10000x16x2, .f32⟩
  | 125 => ⟨S_, .f32⟩
  | 126 => ⟨S10000x16, .f32⟩
  | 127 => ⟨S_, .f32⟩
  | _ => ⟨S10000x128, .f32⟩

abbrev hbmTy0_1 (i : Nat) : BufTy := match i % 128 with
  | 0 => ⟨S10000x16, .f32⟩
  | 1 => ⟨S10000x16, .f32⟩
  | 2 => ⟨S_, .f32⟩
  | 3 => ⟨S10000x16, .f32⟩
  | 4 => ⟨S10000x16, .f32⟩
  | 5 => ⟨S_, .f32⟩
  | 6 => ⟨S_, .f32⟩
  | 7 => ⟨S10000x16, .f32⟩
  | 8 => ⟨S10000x16, .f32⟩
  | 9 => ⟨S10000x16, .f32⟩
  | 10 => ⟨S_, .f32⟩
  | 11 => ⟨S10000x16, .f32⟩
  | 12 => ⟨S10000x16, .f32⟩
  | 13 => ⟨S_, .f32⟩
  | 14 => ⟨S10000x16, .f32⟩
  | 15 => ⟨S10000x16, .f32⟩
  | 16 => ⟨S10000x16, .f32⟩
  | 17 => ⟨S10000x64, .f32⟩
  | 18 => ⟨S1x10000x2, .f32⟩
  | 19 => ⟨S10000x2, .f32⟩
  | 20 => ⟨S10000x1, .f32⟩
  | 21 => ⟨S10000x1, .f32⟩
  | 22 => ⟨S1x16, .f32⟩
  | 23 => ⟨S10000x16, .f32⟩
  | 24 => ⟨S10000x16, .f32⟩
  | 25 => ⟨S10000x16, .f32⟩
  | 26 => ⟨S10000x16, .f32⟩
  | 27 => ⟨S10000x16, .f32⟩
  | 28 => ⟨S10000x16, .f32⟩
  | 29 => ⟨S_, .f32⟩
  | 30 => ⟨S10000x16, .f32⟩
  | 31 => ⟨S10000x16, .f32⟩
  | 32 => ⟨S10000x1x2, .f32⟩
  | 33 => ⟨S1x16x2, .f32⟩
  | 34 => ⟨S10000x16x2, .f32⟩
  | 35 => ⟨S10000x16x2, .f32⟩
  | 36 => ⟨S10000x16x2, .f32⟩
  | 37 => ⟨S10000x16x2, .f32⟩
  | 38 => ⟨S_, .f32⟩
  | 39 => ⟨S10000x16, .f32⟩
  | 40 => ⟨S10000x16, .f32⟩
  | 41 => ⟨S_, .f32⟩
  | 42 => ⟨S10000x16, .f32⟩
  | 43 => ⟨S10000x16, .f32⟩
  | 44 => ⟨S10000x16, .f32⟩
  | 45 => ⟨S10000x16, .f32⟩
  | 46 => ⟨S1x16, .f32⟩
  | 47 => ⟨S10000x16, .f32⟩
  | 48 => ⟨S10000x16, .f32⟩
  | 49 => ⟨S10000x1x2, .f32⟩
  | 50 => ⟨S1x16x2, .f32⟩
  | 51 => ⟨S10000x16x2, .f32⟩
  | 52 => ⟨S10000x16x2, .f32⟩
  | 53 => ⟨S10000x16x2, .f32⟩
  | 54 => ⟨S10000x16x2, .f32⟩
  | 55 => ⟨S_, .f32⟩
  | 56 => ⟨S10000x16, .f32⟩
  | 57 => ⟨S_, .f32⟩
  | 58 => ⟨S10000x16, .f32⟩
  | 59 => ⟨S10000x16, .f32⟩
  | 60 => ⟨S_, .f32⟩
  | 61 => ⟨S10000x16, .f32⟩
  | 62 => ⟨S10000x16, .f32⟩
  | 63 => ⟨S_, .f32⟩
  | 64 => ⟨S_, .f32⟩
  | 65 => ⟨S10000x16, .f32⟩
  | 66 => ⟨S10000x16, .f32⟩
  | 67 => ⟨S10000x16, .f32⟩
  | 68 => ⟨S_, .f32⟩
  | 69 => ⟨S10000x16, .f32⟩
  | 70 => ⟨S10000x16, .f32⟩
  | 71 => ⟨S_, .f32⟩
  | 72 => ⟨S10000x16, .f32⟩
  | 73 => ⟨S10000x16, .f32⟩
  | 74 => ⟨S10000x16, .f32⟩
  | 75 => ⟨S10000x64, .f32⟩
  | 76 => ⟨S1x10000x2, .f32⟩
  | 77 => ⟨S10000x2, .f32⟩
  | 78 => ⟨S10000x1, .f32⟩
  | 79 => ⟨S10000x1, .f32⟩
  | 80 => ⟨S1x16, .f32⟩
  | 81 => ⟨S10000x16, .f32⟩
  | 82 => ⟨S10000x16, .f32⟩
  | 83 => ⟨S10000x16, .f32⟩
  | 84 => ⟨S10000x16, .f32⟩
  | 85 => ⟨S10000x16, .f32⟩
  | 86 => ⟨S10000x16, .f32⟩
  | 87 => ⟨S_, .f32⟩
  | 88 => ⟨S10000x16, .f32⟩
  | 89 => ⟨S10000x16, .f32⟩
  | 90 => ⟨S10000x1x2, .f32⟩
  | 91 => ⟨S1x16x2, .f32⟩
  | 92 => ⟨S10000x16x2, .f32⟩
  | 93 => ⟨S10000x16x2, .f32⟩
  | 94 => ⟨S10000x16x2, .f32⟩
  | 95 => ⟨S10000x16x2, .f32⟩
  | 96 => ⟨S_, .f32⟩
  | 97 => ⟨S10000x16, .f32⟩
  | 98 => ⟨S10000x16, .f32⟩
  | 99 => ⟨S_, .f32⟩
  | 100 => ⟨S10000x16, .f32⟩
  | 101 => ⟨S10000x16, .f32⟩
  | 102 => ⟨S10000x16, .f32⟩
  | 103 => ⟨S10000x16, .f32⟩
  | 104 => ⟨S1x16, .f32⟩
  | 105 => ⟨S10000x16, .f32⟩
  | 106 => ⟨S10000x16, .f32⟩
  | 107 => ⟨S10000x1x2, .f32⟩
  | 108 => ⟨S1x16x2, .f32⟩
  | 109 => ⟨S10000x16x2, .f32⟩
  | 110 => ⟨S10000x16x2, .f32⟩
  | 111 => ⟨S10000x16x2, .f32⟩
  | 112 => ⟨S10000x16x2, .f32⟩
  | 113 => ⟨S_, .f32⟩
  | 114 => ⟨S10000x16, .f32⟩
  | 115 => ⟨S_, .f32⟩
  | 116 => ⟨S10000x16, .f32⟩
  | 117 => ⟨S10000x16, .f32⟩
  | 118 => ⟨S_, .f32⟩
  | 119 => ⟨S10000x16, .f32⟩
  | 120 => ⟨S10000x16, .f32⟩
  | 121 => ⟨S_, .f32⟩
  | 122 => ⟨S_, .f32⟩
  | 123 => ⟨S10000x16, .f32⟩
  | 124 => ⟨S10000x16, .f32⟩
  | 125 => ⟨S10000x16, .f32⟩
  | 126 => ⟨S_, .f32⟩
  | 127 => ⟨S10000x16, .f32⟩
  | _ => ⟨S10000x128, .f32⟩

abbrev hbmTy0_2 (i : Nat) : BufTy := match i % 128 with
  | 0 => ⟨S10000x16, .f32⟩
  | 1 => ⟨S_, .f32⟩
  | 2 => ⟨S10000x16, .f32⟩
  | 3 => ⟨S10000x16, .f32⟩
  | 4 => ⟨S10000x16, .f32⟩
  | 5 => ⟨S10000x64, .f32⟩
  | 6 => ⟨S1x10000x2, .f32⟩
  | 7 => ⟨S10000x2, .f32⟩
  | 8 => ⟨S10000x1, .f32⟩
  | 9 => ⟨S10000x1, .f32⟩
  | 10 => ⟨S1x16, .f32⟩
  | 11 => ⟨S10000x16, .f32⟩
  | 12 => ⟨S10000x16, .f32⟩
  | 13 => ⟨S10000x16, .f32⟩
  | 14 => ⟨S10000x16, .f32⟩
  | 15 => ⟨S10000x16, .f32⟩
  | 16 => ⟨S10000x16, .f32⟩
  | 17 => ⟨S_, .f32⟩
  | 18 => ⟨S10000x16, .f32⟩
  | 19 => ⟨S10000x16, .f32⟩
  | 20 => ⟨S10000x1x2, .f32⟩
  | 21 => ⟨S1x16x2, .f32⟩
  | 22 => ⟨S10000x16x2, .f32⟩
  | 23 => ⟨S10000x16x2, .f32⟩
  | 24 => ⟨S10000x16x2, .f32⟩
  | 25 => ⟨S10000x16x2, .f32⟩
  | 26 => ⟨S_, .f32⟩
  | 27 => ⟨S10000x16, .f32⟩
  | 28 => ⟨S10000x16, .f32⟩
  | 29 => ⟨S_, .f32⟩
  | 30 => ⟨S10000x16, .f32⟩
  | 31 => ⟨S10000x16, .f32⟩
  | 32 => ⟨S10000x16, .f32⟩
  | 33 => ⟨S10000x16, .f32⟩
  | 34 => ⟨S1x16, .f32⟩
  | 35 => ⟨S10000x16, .f32⟩
  | 36 => ⟨S10000x16, .f32⟩
  | 37 => ⟨S10000x1x2, .f32⟩
  | 38 => ⟨S1x16x2, .f32⟩
  | 39 => ⟨S10000x16x2, .f32⟩
  | 40 => ⟨S10000x16x2, .f32⟩
  | 41 => ⟨S10000x16x2, .f32⟩
  | 42 => ⟨S10000x16x2, .f32⟩
  | 43 => ⟨S_, .f32⟩
  | 44 => ⟨S10000x16, .f32⟩
  | 45 => ⟨S_, .f32⟩
  | 46 => ⟨S10000x16, .f32⟩
  | 47 => ⟨S10000x16, .f32⟩
  | 48 => ⟨S_, .f32⟩
  | 49 => ⟨S10000x16, .f32⟩
  | 50 => ⟨S10000x16, .f32⟩
  | 51 => ⟨S_, .f32⟩
  | 52 => ⟨S_, .f32⟩
  | 53 => ⟨S10000x16, .f32⟩
  | 54 => ⟨S10000x16, .f32⟩
  | 55 => ⟨S10000x16, .f32⟩
  | 56 => ⟨S_, .f32⟩
  | 57 => ⟨S10000x16, .f32⟩
  | 58 => ⟨S10000x16, .f32⟩
  | 59 => ⟨S_, .f32⟩
  | 60 => ⟨S10000x16, .f32⟩
  | 61 => ⟨S10000x16, .f32⟩
  | 62 => ⟨S10000x16, .f32⟩
  | 63 => ⟨S10000x64, .f32⟩
  | 64 => ⟨S1x10000x2, .f32⟩
  | 65 => ⟨S10000x2, .f32⟩
  | 66 => ⟨S10000x1, .f32⟩
  | 67 => ⟨S10000x1, .f32⟩
  | 68 => ⟨S1x16, .f32⟩
  | 69 => ⟨S10000x16, .f32⟩
  | 70 => ⟨S10000x16, .f32⟩
  | 71 => ⟨S10000x16, .f32⟩
  | 72 => ⟨S10000x16, .f32⟩
  | 73 => ⟨S10000x16, .f32⟩
  | 74 => ⟨S10000x16, .f32⟩
  | 75 => ⟨S_, .f32⟩
  | 76 => ⟨S10000x16, .f32⟩
  | 77 => ⟨S10000x16, .f32⟩
  | 78 => ⟨S10000x1x2, .f32⟩
  | 79 => ⟨S1x16x2, .f32⟩
  | 80 => ⟨S10000x16x2, .f32⟩
  | 81 => ⟨S10000x16x2, .f32⟩
  | 82 => ⟨S10000x16x2, .f32⟩
  | 83 => ⟨S10000x16x2, .f32⟩
  | 84 => ⟨S_, .f32⟩
  | 85 => ⟨S10000x16, .f32⟩
  | 86 => ⟨S10000x16, .f32⟩
  | 87 => ⟨S_, .f32⟩
  | 88 => ⟨S10000x16, .f32⟩
  | 89 => ⟨S10000x16, .f32⟩
  | 90 => ⟨S10000x16, .f32⟩
  | 91 => ⟨S10000x16, .f32⟩
  | 92 => ⟨S1x16, .f32⟩
  | 93 => ⟨S10000x16, .f32⟩
  | 94 => ⟨S10000x16, .f32⟩
  | 95 => ⟨S10000x1x2, .f32⟩
  | 96 => ⟨S1x16x2, .f32⟩
  | 97 => ⟨S10000x16x2, .f32⟩
  | 98 => ⟨S10000x16x2, .f32⟩
  | 99 => ⟨S10000x16x2, .f32⟩
  | 100 => ⟨S10000x16x2, .f32⟩
  | 101 => ⟨S_, .f32⟩
  | 102 => ⟨S10000x16, .f32⟩
  | 103 => ⟨S_, .f32⟩
  | 104 => ⟨S10000x16, .f32⟩
  | 105 => ⟨S10000x16, .f32⟩
  | 106 => ⟨S_, .f32⟩
  | 107 => ⟨S10000x16, .f32⟩
  | 108 => ⟨S10000x16, .f32⟩
  | 109 => ⟨S_, .f32⟩
  | 110 => ⟨S_, .f32⟩
  | 111 => ⟨S10000x16, .f32⟩
  | 112 => ⟨S10000x16, .f32⟩
  | 113 => ⟨S10000x16, .f32⟩
  | 114 => ⟨S_, .f32⟩
  | 115 => ⟨S10000x16, .f32⟩
  | 116 => ⟨S10000x16, .f32⟩
  | 117 => ⟨S_, .f32⟩
  | 118 => ⟨S10000x16, .f32⟩
  | 119 => ⟨S10000x16, .f32⟩
  | 120 => ⟨S10000x16, .f32⟩
  | 121 => ⟨S10000x64, .f32⟩
  | 122 => ⟨S1x10000x2, .f32⟩
  | 123 => ⟨S10000x2, .f32⟩
  | 124 => ⟨S10000x1, .f32⟩
  | 125 => ⟨S10000x1, .f32⟩
  | 126 => ⟨S1x16, .f32⟩
  | 127 => ⟨S10000x16, .f32⟩
  | _ => ⟨S10000x128, .f32⟩

abbrev hbmTy0_3 (i : Nat) : BufTy := match i % 128 with
  | 0 => ⟨S10000x16, .f32⟩
  | 1 => ⟨S10000x16, .f32⟩
  | 2 => ⟨S10000x16, .f32⟩
  | 3 => ⟨S10000x16, .f32⟩
  | 4 => ⟨S10000x16, .f32⟩
  | 5 => ⟨S_, .f32⟩
  | 6 => ⟨S10000x16, .f32⟩
  | 7 => ⟨S10000x16, .f32⟩
  | 8 => ⟨S10000x1x2, .f32⟩
  | 9 => ⟨S1x16x2, .f32⟩
  | 10 => ⟨S10000x16x2, .f32⟩
  | 11 => ⟨S10000x16x2, .f32⟩
  | 12 => ⟨S10000x16x2, .f32⟩
  | 13 => ⟨S10000x16x2, .f32⟩
  | 14 => ⟨S_, .f32⟩
  | 15 => ⟨S10000x16, .f32⟩
  | 16 => ⟨S10000x16, .f32⟩
  | 17 => ⟨S_, .f32⟩
  | 18 => ⟨S10000x16, .f32⟩
  | 19 => ⟨S10000x16, .f32⟩
  | 20 => ⟨S10000x16, .f32⟩
  | 21 => ⟨S10000x16, .f32⟩
  | 22 => ⟨S1x16, .f32⟩
  | 23 => ⟨S10000x16, .f32⟩
  | 24 => ⟨S10000x16, .f32⟩
  | 25 => ⟨S10000x1x2, .f32⟩
  | 26 => ⟨S1x16x2, .f32⟩
  | 27 => ⟨S10000x16x2, .f32⟩
  | 28 => ⟨S10000x16x2, .f32⟩
  | 29 => ⟨S10000x16x2, .f32⟩
  | 30 => ⟨S10000x16x2, .f32⟩
  | 31 => ⟨S_, .f32⟩
  | 32 => ⟨S10000x16, .f32⟩
  | 33 => ⟨S_, .f32⟩
  | 34 => ⟨S10000x16, .f32⟩
  | 35 => ⟨S10000x16, .f32⟩
  | 36 => ⟨S_, .f32⟩
  | 37 => ⟨S10000x16, .f32⟩
  | 38 => ⟨S10000x16, .f32⟩
  | 39 => ⟨S_, .f32⟩
  | 40 => ⟨S_, .f32⟩
  | 41 => ⟨S10000x16, .f32⟩
  | 42 => ⟨S10000x16, .f32⟩
  | 43 => ⟨S10000x16, .f32⟩
  | 44 => ⟨S_, .f32⟩
  | 45 => ⟨S10000x16, .f32⟩
  | 46 => ⟨S10000x16, .f32⟩
  | 47 => ⟨S_, .f32⟩
  | 48 => ⟨S10000x16, .f32⟩
  | 49 => ⟨S10000x16, .f32⟩
  | 50 => ⟨S10000x16, .f32⟩
  | 51 => ⟨S10000x64, .f32⟩
  | 52 => ⟨S1x10000x2, .f32⟩
  | 53 => ⟨S10000x2, .f32⟩
  | 54 => ⟨S10000x1, .f32⟩
  | 55 => ⟨S10000x1, .f32⟩
  | 56 => ⟨S1x16, .f32⟩
  | 57 => ⟨S10000x16, .f32⟩
  | 58 => ⟨S10000x16, .f32⟩
  | 59 => ⟨S10000x16, .f32⟩
  | 60 => ⟨S10000x16, .f32⟩
  | 61 => ⟨S10000x16, .f32⟩
  | 62 => ⟨S10000x16, .f32⟩
  | 63 => ⟨S_, .f32⟩
  | 64 => ⟨S10000x16, .f32⟩
  | 65 => ⟨S10000x16, .f32⟩
  | 66 => ⟨S10000x1x2, .f32⟩
  | 67 => ⟨S1x16x2, .f32⟩
  | 68 => ⟨S10000x16x2, .f32⟩
  | 69 => ⟨S10000x16x2, .f32⟩
  | 70 => ⟨S10000x16x2, .f32⟩
  | 71 => ⟨S10000x16x2, .f32⟩
  | 72 => ⟨S_, .f32⟩
  | 73 => ⟨S10000x16, .f32⟩
  | 74 => ⟨S10000x16, .f32⟩
  | 75 => ⟨S_, .f32⟩
  | 76 => ⟨S10000x16, .f32⟩
  | 77 => ⟨S10000x16, .f32⟩
  | 78 => ⟨S10000x16, .f32⟩
  | 79 => ⟨S10000x16, .f32⟩
  | 80 => ⟨S1x16, .f32⟩
  | 81 => ⟨S10000x16, .f32⟩
  | 82 => ⟨S10000x16, .f32⟩
  | 83 => ⟨S10000x1x2, .f32⟩
  | 84 => ⟨S1x16x2, .f32⟩
  | 85 => ⟨S10000x16x2, .f32⟩
  | 86 => ⟨S10000x16x2, .f32⟩
  | 87 => ⟨S10000x16x2, .f32⟩
  | 88 => ⟨S10000x16x2, .f32⟩
  | 89 => ⟨S_, .f32⟩
  | 90 => ⟨S10000x16, .f32⟩
  | 91 => ⟨S_, .f32⟩
  | 92 => ⟨S10000x16, .f32⟩
  | 93 => ⟨S10000x16, .f32⟩
  | 94 => ⟨S_, .f32⟩
  | 95 => ⟨S10000x16, .f32⟩
  | 96 => ⟨S10000x16, .f32⟩
  | 97 => ⟨S_, .f32⟩
  | 98 => ⟨S_, .f32⟩
  | 99 => ⟨S10000x16, .f32⟩
  | 100 => ⟨S10000x16, .f32⟩
  | 101 => ⟨S10000x16, .f32⟩
  | 102 => ⟨S_, .f32⟩
  | 103 => ⟨S10000x16, .f32⟩
  | 104 => ⟨S10000x16, .f32⟩
  | 105 => ⟨S_, .f32⟩
  | 106 => ⟨S10000x16, .f32⟩
  | 107 => ⟨S10000x16, .f32⟩
  | 108 => ⟨S10000x16, .f32⟩
  | 109 => ⟨S10000x64, .f32⟩
  | 110 => ⟨S10000x512, .f32⟩
  | 111 => ⟨S10000x640, .f32⟩
  | 112 => ⟨S10000x128, .f32⟩
  | 113 => ⟨S1x128, .f32⟩
  | 114 => ⟨S10000x128, .f32⟩
  | 115 => ⟨S10000x128, .f32⟩
  | 116 => ⟨S_, .f32⟩
  | 117 => ⟨S10000x128, .f32⟩
  | 118 => ⟨S10000x128, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_cst : Ref sig .tc := ⟨.hbm, 41, rfl⟩
abbrev main_call1_v0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst : Ref sig .tc := ⟨.hbm, 50, rfl⟩
abbrev main_v30 : Ref sig .tc := ⟨.hbm, 51, rfl⟩
abbrev main_v31 : Ref sig .tc := ⟨.hbm, 52, rfl⟩
abbrev main_cst_0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_1 : Ref sig .tc := ⟨.hbm, 67, rfl⟩
abbrev main_v45 : Ref sig .tc := ⟨.hbm, 68, rfl⟩
abbrev main_cst_2 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_4 : Ref sig .tc := ⟨.hbm, 80, rfl⟩
abbrev main_v55 : Ref sig .tc := ⟨.hbm, 81, rfl⟩
abbrev main_v56 : Ref sig .tc := ⟨.hbm, 82, rfl⟩
abbrev main_cst_5 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_call2_cst : Ref sig .tc := ⟨.hbm, 99, rfl⟩
abbrev main_call2_v0 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_6 : Ref sig .tc := ⟨.hbm, 108, rfl⟩
abbrev main_v79 : Ref sig .tc := ⟨.hbm, 109, rfl⟩
abbrev main_v80 : Ref sig .tc := ⟨.hbm, 110, rfl⟩
abbrev main_cst_7 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_8 : Ref sig .tc := ⟨.hbm, 125, rfl⟩
abbrev main_v94 : Ref sig .tc := ⟨.hbm, 126, rfl⟩
abbrev main_cst_9 : Ref sig .tc := ⟨.hbm, 127, rfl⟩
abbrev main_v95 : Ref sig .tc := ⟨.hbm, 128, rfl⟩
abbrev main_v96 : Ref sig .tc := ⟨.hbm, 129, rfl⟩
abbrev main_cst_10 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_11 : Ref sig .tc := ⟨.hbm, 138, rfl⟩
abbrev main_v104 : Ref sig .tc := ⟨.hbm, 139, rfl⟩
abbrev main_v105 : Ref sig .tc := ⟨.hbm, 140, rfl⟩
abbrev main_cst_12 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_call3_cst : Ref sig .tc := ⟨.hbm, 157, rfl⟩
abbrev main_call3_v0 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_13 : Ref sig .tc := ⟨.hbm, 166, rfl⟩
abbrev main_v128 : Ref sig .tc := ⟨.hbm, 167, rfl⟩
abbrev main_v129 : Ref sig .tc := ⟨.hbm, 168, rfl⟩
abbrev main_cst_14 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_15 : Ref sig .tc := ⟨.hbm, 183, rfl⟩
abbrev main_v143 : Ref sig .tc := ⟨.hbm, 184, rfl⟩
abbrev main_cst_16 : Ref sig .tc := ⟨.hbm, 185, rfl⟩
abbrev main_v144 : Ref sig .tc := ⟨.hbm, 186, rfl⟩
abbrev main_v145 : Ref sig .tc := ⟨.hbm, 187, rfl⟩
abbrev main_cst_17 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_18 : Ref sig .tc := ⟨.hbm, 196, rfl⟩
abbrev main_v153 : Ref sig .tc := ⟨.hbm, 197, rfl⟩
abbrev main_v154 : Ref sig .tc := ⟨.hbm, 198, rfl⟩
abbrev main_cst_19 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_call4_cst : Ref sig .tc := ⟨.hbm, 215, rfl⟩
abbrev main_call4_v0 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_20 : Ref sig .tc := ⟨.hbm, 224, rfl⟩
abbrev main_v177 : Ref sig .tc := ⟨.hbm, 225, rfl⟩
abbrev main_v178 : Ref sig .tc := ⟨.hbm, 226, rfl⟩
abbrev main_cst_21 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_cst_22 : Ref sig .tc := ⟨.hbm, 241, rfl⟩
abbrev main_v192 : Ref sig .tc := ⟨.hbm, 242, rfl⟩
abbrev main_cst_23 : Ref sig .tc := ⟨.hbm, 243, rfl⟩
abbrev main_v193 : Ref sig .tc := ⟨.hbm, 244, rfl⟩
abbrev main_v194 : Ref sig .tc := ⟨.hbm, 245, rfl⟩
abbrev main_cst_24 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_v199 : Ref sig .tc := ⟨.hbm, 251, rfl⟩
abbrev main_v200 : Ref sig .tc := ⟨.hbm, 252, rfl⟩
abbrev main_v201 : Ref sig .tc := ⟨.hbm, 253, rfl⟩
abbrev main_cst_25 : Ref sig .tc := ⟨.hbm, 254, rfl⟩
abbrev main_v202 : Ref sig .tc := ⟨.hbm, 255, rfl⟩
abbrev main_v203 : Ref sig .tc := ⟨.hbm, 256, rfl⟩
abbrev main_cst_26 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_call5_cst : Ref sig .tc := ⟨.hbm, 273, rfl⟩
abbrev main_call5_v0 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_cst_27 : Ref sig .tc := ⟨.hbm, 282, rfl⟩
abbrev main_v226 : Ref sig .tc := ⟨.hbm, 283, rfl⟩
abbrev main_v227 : Ref sig .tc := ⟨.hbm, 284, rfl⟩
abbrev main_cst_28 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_cst_29 : Ref sig .tc := ⟨.hbm, 299, rfl⟩
abbrev main_v241 : Ref sig .tc := ⟨.hbm, 300, rfl⟩
abbrev main_cst_30 : Ref sig .tc := ⟨.hbm, 301, rfl⟩
abbrev main_v242 : Ref sig .tc := ⟨.hbm, 302, rfl⟩
abbrev main_v243 : Ref sig .tc := ⟨.hbm, 303, rfl⟩
abbrev main_cst_31 : Ref sig .tc := ⟨.hbm, 304, rfl⟩
abbrev main_v244 : Ref sig .tc := ⟨.hbm, 305, rfl⟩
abbrev main_v245 : Ref sig .tc := ⟨.hbm, 306, rfl⟩
abbrev main_v246 : Ref sig .tc := ⟨.hbm, 307, rfl⟩
abbrev main_v247 : Ref sig .tc := ⟨.hbm, 308, rfl⟩
abbrev main_v248 : Ref sig .tc := ⟨.hbm, 309, rfl⟩
abbrev main_v249 : Ref sig .tc := ⟨.hbm, 310, rfl⟩
abbrev main_v250 : Ref sig .tc := ⟨.hbm, 311, rfl⟩
abbrev main_cst_32 : Ref sig .tc := ⟨.hbm, 312, rfl⟩
abbrev main_v251 : Ref sig .tc := ⟨.hbm, 313, rfl⟩
abbrev main_v252 : Ref sig .tc := ⟨.hbm, 314, rfl⟩
abbrev main_cst_33 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_call6_cst : Ref sig .tc := ⟨.hbm, 331, rfl⟩
abbrev main_call6_v0 : Ref sig .tc := ⟨.hbm, 332, rfl⟩
abbrev main_v268 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_cst_34 : Ref sig .tc := ⟨.hbm, 340, rfl⟩
abbrev main_v275 : Ref sig .tc := ⟨.hbm, 341, rfl⟩
abbrev main_v276 : Ref sig .tc := ⟨.hbm, 342, rfl⟩
abbrev main_cst_35 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_cst_36 : Ref sig .tc := ⟨.hbm, 357, rfl⟩
abbrev main_v290 : Ref sig .tc := ⟨.hbm, 358, rfl⟩
abbrev main_cst_37 : Ref sig .tc := ⟨.hbm, 359, rfl⟩
abbrev main_v291 : Ref sig .tc := ⟨.hbm, 360, rfl⟩
abbrev main_v292 : Ref sig .tc := ⟨.hbm, 361, rfl⟩
abbrev main_cst_38 : Ref sig .tc := ⟨.hbm, 362, rfl⟩
abbrev main_v293 : Ref sig .tc := ⟨.hbm, 363, rfl⟩
abbrev main_v294 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_cst_39 : Ref sig .tc := ⟨.hbm, 370, rfl⟩
abbrev main_v300 : Ref sig .tc := ⟨.hbm, 371, rfl⟩
abbrev main_v301 : Ref sig .tc := ⟨.hbm, 372, rfl⟩
abbrev main_cst_40 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_v306 : Ref sig .tc := ⟨.hbm, 378, rfl⟩
abbrev main_v307 : Ref sig .tc := ⟨.hbm, 379, rfl⟩
abbrev main_v308 : Ref sig .tc := ⟨.hbm, 380, rfl⟩
abbrev main_v309 : Ref sig .tc := ⟨.hbm, 381, rfl⟩
abbrev main_v310 : Ref sig .tc := ⟨.hbm, 382, rfl⟩
abbrev main_v311 : Ref sig .tc := ⟨.hbm, 383, rfl⟩
abbrev main_v312 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_call7_cst : Ref sig .tc := ⟨.hbm, 389, rfl⟩
abbrev main_call7_v0 : Ref sig .tc := ⟨.hbm, 390, rfl⟩
abbrev main_v317 : Ref sig .tc := ⟨.hbm, 391, rfl⟩
abbrev main_v318 : Ref sig .tc := ⟨.hbm, 392, rfl⟩
abbrev main_v319 : Ref sig .tc := ⟨.hbm, 393, rfl⟩
abbrev main_v320 : Ref sig .tc := ⟨.hbm, 394, rfl⟩
abbrev main_v321 : Ref sig .tc := ⟨.hbm, 395, rfl⟩
abbrev main_v322 : Ref sig .tc := ⟨.hbm, 396, rfl⟩
abbrev main_v323 : Ref sig .tc := ⟨.hbm, 397, rfl⟩
abbrev main_cst_41 : Ref sig .tc := ⟨.hbm, 398, rfl⟩
abbrev main_v324 : Ref sig .tc := ⟨.hbm, 399, rfl⟩
abbrev main_v325 : Ref sig .tc := ⟨.hbm, 400, rfl⟩
abbrev main_cst_42 : Ref sig .tc := ⟨.hbm, 401, rfl⟩
abbrev main_v326 : Ref sig .tc := ⟨.hbm, 402, rfl⟩
abbrev main_v327 : Ref sig .tc := ⟨.hbm, 403, rfl⟩
abbrev main_v328 : Ref sig .tc := ⟨.hbm, 404, rfl⟩
abbrev main_v329 : Ref sig .tc := ⟨.hbm, 405, rfl⟩
abbrev main_v330 : Ref sig .tc := ⟨.hbm, 406, rfl⟩
abbrev main_v331 : Ref sig .tc := ⟨.hbm, 407, rfl⟩
abbrev main_v332 : Ref sig .tc := ⟨.hbm, 408, rfl⟩
abbrev main_v333 : Ref sig .tc := ⟨.hbm, 409, rfl⟩
abbrev main_v334 : Ref sig .tc := ⟨.hbm, 410, rfl⟩
abbrev main_v335 : Ref sig .tc := ⟨.hbm, 411, rfl⟩
abbrev main_v336 : Ref sig .tc := ⟨.hbm, 412, rfl⟩
abbrev main_v337 : Ref sig .tc := ⟨.hbm, 413, rfl⟩
abbrev main_v338 : Ref sig .tc := ⟨.hbm, 414, rfl⟩
abbrev main_cst_43 : Ref sig .tc := ⟨.hbm, 415, rfl⟩
abbrev main_v339 : Ref sig .tc := ⟨.hbm, 416, rfl⟩
abbrev main_cst_44 : Ref sig .tc := ⟨.hbm, 417, rfl⟩
abbrev main_v340 : Ref sig .tc := ⟨.hbm, 418, rfl⟩
abbrev main_v341 : Ref sig .tc := ⟨.hbm, 419, rfl⟩
abbrev main_cst_45 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_cst_46 : Ref sig .tc := ⟨.hbm, 428, rfl⟩
abbrev main_v349 : Ref sig .tc := ⟨.hbm, 429, rfl⟩
abbrev main_v350 : Ref sig .tc := ⟨.hbm, 430, rfl⟩
abbrev main_cst_47 : Ref sig .tc := ⟨.hbm, 431, rfl⟩
abbrev main_v351 : Ref sig .tc := ⟨.hbm, 432, rfl⟩
abbrev main_v352 : Ref sig .tc := ⟨.hbm, 433, rfl⟩
abbrev main_v353 : Ref sig .tc := ⟨.hbm, 434, rfl⟩
abbrev main_v354 : Ref sig .tc := ⟨.hbm, 435, rfl⟩
abbrev main_v355 : Ref sig .tc := ⟨.hbm, 436, rfl⟩
abbrev main_v356 : Ref sig .tc := ⟨.hbm, 437, rfl⟩
abbrev main_v357 : Ref sig .tc := ⟨.hbm, 438, rfl⟩
abbrev main_v358 : Ref sig .tc := ⟨.hbm, 439, rfl⟩
abbrev main_v359 : Ref sig .tc := ⟨.hbm, 440, rfl⟩
abbrev main_v360 : Ref sig .tc := ⟨.hbm, 441, rfl⟩
abbrev main_v361 : Ref sig .tc := ⟨.hbm, 442, rfl⟩
abbrev main_v362 : Ref sig .tc := ⟨.hbm, 443, rfl⟩
abbrev main_v363 : Ref sig .tc := ⟨.hbm, 444, rfl⟩
abbrev main_v364 : Ref sig .tc := ⟨.hbm, 445, rfl⟩
abbrev main_v365 : Ref sig .tc := ⟨.hbm, 446, rfl⟩
abbrev main_call8_cst : Ref sig .tc := ⟨.hbm, 447, rfl⟩
abbrev main_call8_v0 : Ref sig .tc := ⟨.hbm, 448, rfl⟩
abbrev main_v366 : Ref sig .tc := ⟨.hbm, 449, rfl⟩
abbrev main_v367 : Ref sig .tc := ⟨.hbm, 450, rfl⟩
abbrev main_v368 : Ref sig .tc := ⟨.hbm, 451, rfl⟩
abbrev main_v369 : Ref sig .tc := ⟨.hbm, 452, rfl⟩
abbrev main_v370 : Ref sig .tc := ⟨.hbm, 453, rfl⟩
abbrev main_v371 : Ref sig .tc := ⟨.hbm, 454, rfl⟩
abbrev main_v372 : Ref sig .tc := ⟨.hbm, 455, rfl⟩
abbrev main_cst_48 : Ref sig .tc := ⟨.hbm, 456, rfl⟩
abbrev main_v373 : Ref sig .tc := ⟨.hbm, 457, rfl⟩
abbrev main_v374 : Ref sig .tc := ⟨.hbm, 458, rfl⟩
abbrev main_cst_49 : Ref sig .tc := ⟨.hbm, 459, rfl⟩
abbrev main_v375 : Ref sig .tc := ⟨.hbm, 460, rfl⟩
abbrev main_v376 : Ref sig .tc := ⟨.hbm, 461, rfl⟩
abbrev main_v377 : Ref sig .tc := ⟨.hbm, 462, rfl⟩
abbrev main_v378 : Ref sig .tc := ⟨.hbm, 463, rfl⟩
abbrev main_v379 : Ref sig .tc := ⟨.hbm, 464, rfl⟩
abbrev main_v380 : Ref sig .tc := ⟨.hbm, 465, rfl⟩
abbrev main_v381 : Ref sig .tc := ⟨.hbm, 466, rfl⟩
abbrev main_v382 : Ref sig .tc := ⟨.hbm, 467, rfl⟩
abbrev main_v383 : Ref sig .tc := ⟨.hbm, 468, rfl⟩
abbrev main_v384 : Ref sig .tc := ⟨.hbm, 469, rfl⟩
abbrev main_v385 : Ref sig .tc := ⟨.hbm, 470, rfl⟩
abbrev main_v386 : Ref sig .tc := ⟨.hbm, 471, rfl⟩
abbrev main_v387 : Ref sig .tc := ⟨.hbm, 472, rfl⟩
abbrev main_cst_50 : Ref sig .tc := ⟨.hbm, 473, rfl⟩
abbrev main_v388 : Ref sig .tc := ⟨.hbm, 474, rfl⟩
abbrev main_cst_51 : Ref sig .tc := ⟨.hbm, 475, rfl⟩
abbrev main_v389 : Ref sig .tc := ⟨.hbm, 476, rfl⟩
abbrev main_v390 : Ref sig .tc := ⟨.hbm, 477, rfl⟩
abbrev main_cst_52 : Ref sig .tc := ⟨.hbm, 478, rfl⟩
abbrev main_v391 : Ref sig .tc := ⟨.hbm, 479, rfl⟩
abbrev main_v392 : Ref sig .tc := ⟨.hbm, 480, rfl⟩
abbrev main_v393 : Ref sig .tc := ⟨.hbm, 481, rfl⟩
abbrev main_v394 : Ref sig .tc := ⟨.hbm, 482, rfl⟩
abbrev main_v395 : Ref sig .tc := ⟨.hbm, 483, rfl⟩
abbrev main_v396 : Ref sig .tc := ⟨.hbm, 484, rfl⟩
abbrev main_v397 : Ref sig .tc := ⟨.hbm, 485, rfl⟩
abbrev main_cst_53 : Ref sig .tc := ⟨.hbm, 486, rfl⟩
abbrev main_v398 : Ref sig .tc := ⟨.hbm, 487, rfl⟩
abbrev main_v399 : Ref sig .tc := ⟨.hbm, 488, rfl⟩
abbrev main_cst_54 : Ref sig .tc := ⟨.hbm, 489, rfl⟩
abbrev main_v400 : Ref sig .tc := ⟨.hbm, 490, rfl⟩
abbrev main_v401 : Ref sig .tc := ⟨.hbm, 491, rfl⟩
abbrev main_v402 : Ref sig .tc := ⟨.hbm, 492, rfl⟩
abbrev main_v403 : Ref sig .tc := ⟨.hbm, 493, rfl⟩
abbrev main_v404 : Ref sig .tc := ⟨.hbm, 494, rfl⟩
abbrev main_v405 : Ref sig .tc := ⟨.hbm, 495, rfl⟩
abbrev main_v406 : Ref sig .tc := ⟨.hbm, 496, rfl⟩
abbrev main_v407 : Ref sig .tc := ⟨.hbm, 497, rfl⟩
abbrev main_v408 : Ref sig .tc := ⟨.hbm, 498, rfl⟩
abbrev main_v409 : Ref sig .tc := ⟨.hbm, 499, rfl⟩
abbrev main_call9_cst : Ref sig .tc := ⟨.hbm, 500, rfl⟩
abbrev main_call9_v0 : Ref sig .tc := ⟨.hbm, 501, rfl⟩
abbrev main_v410 : Ref sig .tc := ⟨.hbm, 502, rfl⟩

abbrev nD : Nat := 1
abbrev τ : Topo := Topo.v7x

variable {F : FTy → Type} [FloatOps F]
-- ==== Proof.Cases.lean ====
module

public import proofs.«01_k».proof.Defs
public import proofs.«01_k».proof.Proof.Gen.KernelIdeal.Frame
public import Idealize.ShloMosaic.Lib.Pipeline.Value
public import Idealize.ShloMosaic.Lib.Tactic

@[expose] public section

set_option maxHeartbeats 1000000

noncomputable section

open Idealize.ShloMosaic Idealize.ShloMosaic.TcCoe Idealize.SL.Sem

namespace Cert.KernelIdeal.Hand

open Cert.KernelIdeal Cert.KernelIdeal.Gen

variable {F : FTy → Type} [FloatOps F]

/-- The zero offset, as the constant function. -/
theorem hz : (![0, 0] : Fin 2 → Nat) = fun _ => 0 := funext fun a => by fin_cases a <;> rfl

/-- Reading a rectangle of a buffer that one store filled whole reads that rectangle of the stored value. -/
theorem readCov_fill_ld {S : Shape} {e : EltTy} {κ : Kind} {sp : Space} (v : View sig κ sp S e) {off : Fin S.rank → Nat}
    (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  have hc := View.canon_unit_zero (Val := Elt F) h inb w
  rw [View.readCov_eq_canon_ld _ _ _ (fun y => ⟨_, List.mem_singleton_self _, View.mem_set_unit_zero h inb y⟩), hc]

/-- The permuted rows of the output weights, as the first point stores them: a 0/1 matrix times rows 128 to 639. -/
def wsOf (x6 : Vec F S640x128 .f32) : FVec F S512x128 .f32 :=
  k0_pay8 (k0_pay4 (iota .tc S512x512 32 [0] iota_S512x512_d0_w32) (iota .tc S512x512 32 [1] iota_S512x512_d1_w32) k0_pay2 128#32 k0_pay3)
    (View.ld x6 (Rect.unit (s := S640x128) ![128, 0] S512x128.size inb_S640x128_S512x128_128_0))

/-- The nine rows of coordinate parameters, each repeated eight times along the row. -/
def csOf (x5 : Vec F S9x16 .f32) : FVec F S9x128 .f32 :=
  k0_pay9 (iota .tc S16x128 32 [0] iota_S16x128_d0_w32) x5

/-- Row `r` of the parameter array. -/
def cRow (r : Nat) (inb : ∀ a, (![r, 0] : Fin 2 → Nat) a + S1x128.size a ≤ S9x128.size a) (cs : Vec F S9x128 .f32) : Vec F S1x128 .f32 :=
  View.ld cs (Rect.unit (s := S9x128) ![r, 0] S1x128.size inb)

/-- Rows `r` to `r + 127` of the permuted output weights. -/
def wRows (r : Nat) (inb : ∀ a, (![r, 0] : Fin 2 → Nat) a + S128x128.size a ≤ S512x128.size a) (ws : Vec F S512x128 .f32) : Vec F S128x128 .f32 :=
  View.ld ws (Rect.unit (s := S512x128) ![r, 0] S128x128.size inb)

/-- The block one grid point writes, as a function of its input blocks and of the four arrays kept between points. -/
def blkOf (x0 : Vec F S2000x128 .f32) (x1 : Vec F S128x64 .f32) (x2 : Vec F S1x64 .f32) (x6 : Vec F S640x128 .f32) (x7 : Vec F S1x128 .f32)
    (ws : Vec F S512x128 .f32) (cs : Vec F S9x128 .f32) (w2 : Vec F S64x128 .f32) (b2 : Vec F S1x128 .f32) : FVec F S2000x128 .f32 :=
  k0_pay1 (k0_pay14 (cRow 0 inb_S9x128_S1x128_0_0 cs) (k0_pay12 x0 x1 x2) w2 b2)
    (k0_pay15 (cRow 1 inb_S9x128_S1x128_1_0 cs) (cRow 2 inb_S9x128_S1x128_2_0 cs) (k0_pay12 x0 x1 x2) w2 b2)
    (k0_pay16 (k0_pay10 (cRow 3 inb_S9x128_S1x128_3_0 cs) (cRow 4 inb_S9x128_S1x128_4_0 cs)) (cRow 5 inb_S9x128_S1x128_5_0 cs) (k0_pay12 x0 x1 x2) w2 b2)
    (k0_pay17 (cRow 6 inb_S9x128_S1x128_6_0 cs) (cRow 7 inb_S9x128_S1x128_7_0 cs) (k0_pay11 (cRow 8 inb_S9x128_S1x128_8_0 cs)) (k0_pay12 x0 x1 x2) w2 b2)
    (k0_pay18 x0 (View.ld x6 (Rect.unit (s := S640x128) ![0, 0] S128x128.size inb_S640x128_S128x128_0_0)))
    (wRows 0 inb_S512x128_S128x128_0_0 ws) (wRows 128 inb_S512x128_S128x128_128_0 ws) (wRows 256 inb_S512x128_S128x128_256_0 ws) (wRows 384 inb_S512x128_S128x128_384_0 ws) x7

variable (c : Dev nD) (i : grid0.Coords)
  (a1 : Memref sig .tc .vmem S2000x128 .f32) (h1 : a1.IsWhole) (a2 : Memref sig .tc .vmem S128x64 .f32) (h2 : a2.IsWhole)
  (a3 : Memref sig .tc .vmem S1x64 .f32) (h3 : a3.IsWhole) (a4 : Memref sig .tc .vmem S64x8 .f32) (h4 : a4.IsWhole)
  (a5 : Memref sig .tc .vmem S1x8 .f32) (h5 : a5.IsWhole) (a6 : Memref sig .tc .vmem S9x16 .f32) (h6 : a6.IsWhole)
  (a7 : Memref sig .tc .vmem S640x128 .f32) (h7 : a7.IsWhole) (a8 : Memref sig .tc .vmem S1x128 .f32) (h8 : a8.IsWhole)
  (a9 : Memref sig .tc .vmem S2000x128 .f32) (h9 : a9.IsWhole) (a10 : Memref sig .tc .vmem S512x128 .f32) (h10 : a10.IsWhole)
  (a11 : Memref sig .tc .vmem S9x128 .f32) (h11 : a11.IsWhole) (a12 : Memref sig .tc .vmem S64x128 .f32) (h12 : a12.IsWhole)
  (a13 : Memref sig .tc .vmem S1x128 .f32) (h13 : a13.IsWhole)
  (x0 : Vec F S2000x128 .f32) (x1 : Vec F S128x64 .f32) (x2 : Vec F S1x64 .f32) (x3 : Vec F S64x8 .f32) (x4 : Vec F S1x8 .f32)
  (x5 : Vec F S9x16 .f32) (x6 : Vec F S640x128 .f32) (x7 : Vec F S1x128 .f32)
  (xs0 : Vec F S512x128 .f32) (xs1 : Vec F S9x128 .f32) (xs2 : Vec F S64x128 .f32) (xs3 : Vec F S1x128 .f32)

/-- What a later point writes: the block over the four arrays as the point before left them. -/
theorem out_B (hc0 : ¬cond0_0 i) (hc1 : ¬cond0_1 i) :
    out0_B_8 c i a1 h1 a2 h2 a3 h3 a4 h4 a5 h5 a6 h6 a7 h7 a8 h8 a9 h9 a10 h10 a11 h11 a12 h12 a13 h13 hc0 hc1 x0 x1 x2 x3 x4 x5 x6 x7 xs0 xs1 xs2 xs3
      = blkOf x0 x1 x2 x6 x7 xs0 xs1 xs2 xs3 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 hc0 hc1 x0 x1 x2 x3 x4 x5 x6 x7 xs0 xs1 xs2 xs3)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread]
  simp only [View.ld_unit_zero (S := S2000x128) hz, View.ld_unit_zero (S := S128x64) hz, View.ld_unit_zero (S := S1x64) hz, View.ld_unit_zero (S := S64x8) hz, View.ld_unit_zero (S := S1x8) hz, View.ld_unit_zero (S := S9x16) hz, View.ld_unit_zero (S := S1x128) hz, View.ld_unit_zero (S := S64x128) hz]
  rfl

/-- What the first point keeps: the permuted output weights. -/
theorem sout_A_0 (hc0 : cond0_0 i) (hc1 : cond0_1 i) :
    sout0_A_0 c i a1 h1 a2 h2 a3 h3 a4 h4 a5 h5 a6 h6 a7 h7 a8 h8 a9 h9 a10 h10 a11 h11 a12 h12 a13 h13 hc0 hc1 x0 x1 x2 x3 x4 x5 x6 x7
      = wsOf x6 := by
  unfold sout0_A_0
  rw [View.read_writes_eq_canon _ _ _ (scover0_A_0 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread]
  rfl

/-- What the first point keeps: the repeated parameters. -/
theorem sout_A_1 (hc0 : cond0_0 i) (hc1 : cond0_1 i) :
    sout0_A_1 c i a1 h1 a2 h2 a3 h3 a4 h4 a5 h5 a6 h6 a7 h7 a8 h8 a9 h9 a10 h10 a11 h11 a12 h12 a13 h13 hc0 hc1 x0 x1 x2 x3 x4 x5 x6 x7
      = csOf x5 := by
  unfold sout0_A_1
  rw [View.read_writes_eq_canon _ _ _ (scover0_A_1 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread]
  simp only [View.ld_unit_zero (S := S2000x128) hz, View.ld_unit_zero (S := S128x64) hz, View.ld_unit_zero (S := S1x64) hz, View.ld_unit_zero (S := S64x8) hz, View.ld_unit_zero (S := S1x8) hz, View.ld_unit_zero (S := S9x16) hz, View.ld_unit_zero (S := S1x128) hz, View.ld_unit_zero (S := S64x128) hz]
  rfl

/-- What the first point keeps: the second layer's weights, each column repeated sixteen times. -/
theorem sout_A_2 (hc0 : cond0_0 i) (hc1 : cond0_1 i) :
    sout0_A_2 c i a1 h1 a2 h2 a3 h3 a4 h4 a5 h5 a6 h6 a7 h7 a8 h8 a9 h9 a10 h10 a11 h11 a12 h12 a13 h13 hc0 hc1 x0 x1 x2 x3 x4 x5 x6 x7
      = k0_pay6 x3 := by
  unfold sout0_A_2
  rw [View.read_writes_eq_canon _ _ _ (scover0_A_2 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread]
  simp only [View.ld_unit_zero (S := S2000x128) hz, View.ld_unit_zero (S := S128x64) hz, View.ld_unit_zero (S := S1x64) hz, View.ld_unit_zero (S := S64x8) hz, View.ld_unit_zero (S := S1x8) hz, View.ld_unit_zero (S := S9x16) hz, View.ld_unit_zero (S := S1x128) hz, View.ld_unit_zero (S := S64x128) hz]

/-- What the first point keeps: the second layer's biases, each repeated sixteen times. -/
theorem sout_A_3 (hc0 : cond0_0 i) (hc1 : cond0_1 i) :
    sout0_A_3 c i a1 h1 a2 h2 a3 h3 a4 h4 a5 h5 a6 h6 a7 h7 a8 h8 a9 h9 a10 h10 a11 h11 a12 h12 a13 h13 hc0 hc1 x0 x1 x2 x3 x4 x5 x6 x7
      = k0_pay7 x4 := by
  unfold sout0_A_3
  rw [View.read_writes_eq_canon _ _ _ (scover0_A_3 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h10.read_unread, h11.read_unread, h12.read_unread, h13.read_unread]
  simp only [View.ld_unit_zero (S := S2000x128) hz, View.ld_unit_zero (S := S128x64) hz, View.ld_unit_zero (S := S1x64) hz, View.ld_unit_zero (S := S64x8) hz, View.ld_unit_zero (S := S1x8) hz, View.ld_unit_zero (S := S9x16) hz, View.ld_unit_zero (S := S1x128) hz, View.ld_unit_zero (S := S64x128) hz]

/-- What the first point writes: the block over the four arrays it has just stored. -/
theorem out_A (hc0 : cond0_0 i) (hc1 : cond0_1 i) :
    out0_A_8 c i a1 h1 a2 h2 a3 h3 a4 h4 a5 h5 a6 h6 a7 h7 a8 h8 a9 h9 a10 h10 a11 h11 a12 h12 a13 h13 hc0 hc1 x0 x1 x2 x3 x4 x5 x6 x7
      = blkOf x0 x1 x2 x6 x7 (wsOf x6) (csOf x5) (k0_pay6 x3) (k0_pay7 x4) := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 hc0 hc1 x0 x1 x2 x3 x4 x5 x6 x7)]
  unfold kernelRun0_A
  dsimp only
  sl_unfold_words
  rw [View.canon_unit_zero hz]
  simp only [readCov_fill_ld (S := S512x128) _ hz, readCov_fill_ld (S := S9x128) _ hz, readCov_fill_ld (S := S64x128) _ hz, readCov_fill_ld (S := S1x128) _ hz]
  simp only [View.readAt_eq_ld, h1.read_unread, h2.read_unread, h3.read_unread, h4.read_unread, h5.read_unread, h6.read_unread, h7.read_unread, h8.read_unread, h10.read_unread, h11.read_unread, h12.read_unread, h13.read_unread]
  simp only [View.ld_unit_zero (S := S2000x128) hz, View.ld_unit_zero (S := S128x64) hz, View.ld_unit_zero (S := S1x64) hz, View.ld_unit_zero (S := S64x8) hz, View.ld_unit_zero (S := S1x8) hz, View.ld_unit_zero (S := S9x16) hz, View.ld_unit_zero (S := S1x128) hz, View.ld_unit_zero (S := S64x128) hz]
  rfl

end Cert.KernelIdeal.Hand
-- ==== Proof.Fold.lean ====
module

public import proofs.«01_k».proof.Proof.Cases
public import proofs.«01_k».proof.Proof.Gen.KernelIdeal.Value

@[expose] public section

set_option maxHeartbeats 1000000

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ)

/-- The first grid point. -/
def pt0 : Fin cfg0.N := ⟨0, by rw [show cfg0.N = 5 from N_0]; decide⟩

/-- What the output block and the four kept arrays hold after point `n`: the block over point `n`'s input blocks, and
    the four arrays as the first point stored them. -/
def stOf (c : Dev nD) (t : Fin cfg0.N) : Vec F S2000x128 .f32 × Vec F S512x128 .f32 × Vec F S9x128 .f32 × Vec F S64x128 .f32 × Vec F S1x128 .f32 :=
  (blkOf (iblk m c 0 t) (iblk m c 1 t) (iblk m c 2 t) (iblk m c 6 t) (iblk m c 7 t)
      (wsOf (iblk m c 6 pt0)) (csOf (iblk m c 5 pt0)) (k0_pay6 (iblk m c 3 pt0)) (k0_pay7 (iblk m c 4 pt0)),
    wsOf (iblk m c 6 pt0), csOf (iblk m c 5 pt0), k0_pay6 (iblk m c 3 pt0), k0_pay7 (iblk m c 4 pt0))

/-- The recursion over the grid points has that closed form. -/
theorem outsAt_eq (c : Dev nD) : ∀ (n : ℕ) (h : n < cfg0.N), outsAt0 m c n h = stOf m c ⟨n, h⟩
  | 0, h => by
    rw [outsAt0_A m c ⟨0, h⟩ (Nat.zero_mod _) (Nat.zero_mod _), out_A, sout_A_0, sout_A_1, sout_A_2, sout_A_3]
    rfl
  | n + 1, h => by
    have hN : n + 1 < 5 := lt_of_lt_of_eq h (show cfg0.N = 5 from N_0)
    have hB : ¬(⟨n + 1, h⟩ : Fin cfg0.N).val % 5 = 0 := by dsimp only; omega
    have ih := outsAt_eq c n (Nat.lt_of_succ_lt h)
    rw [Value.outsAt0_succ, Value.stAt0_B m c ⟨n + 1, h⟩ _ hB hB, ih, out_B]
    rfl

/-- The result array at an index: the block of the point that holds the index's row, read at the index's place in it. -/
theorem G8_eq (c : Dev nD) (i : S10000x128.Idx) (h : (i 0).val / 2000 < cfg0.N) :
    Value.G8 m c i = (stOf m c ⟨(i 0).val / 2000, h⟩).1 (Value.loc8Of i) := by
  have h1 : (i 1).val < 128 := (i 1).isLt
  have hp : Value.pt8Of i = (i 0).val / 2000 := by
    show 1 * ((i 0).val / 2000 - 0) + 1 * ((i 1).val / 128 - 0) = (i 0).val / 2000
    omega
  have hp' : Value.pt8Of i < cfg0.N := by rw [hp]; exact h
  unfold Value.G8
  rw [dif_pos hp']
  have e := Value.outsAt0_sweep m c (Value.pt8Of i) hp'
  rw [outsAt_eq] at e
  rw [← e, show (⟨Value.pt8Of i, hp'⟩ : Fin cfg0.N) = ⟨(i 0).val / 2000, h⟩ from Fin.ext hp]

end Cert.KernelIdeal.Hand
-- ==== Proof.Blocks.lean ====
module

public import proofs.«01_k».proof.Proof.Cases
public import Idealize.ShloMosaic.Lib.Claim
public import Idealize.ShloMosaic.Lib.Pointwise
public import Idealize.ShloMosaic.Lib.Pipeline.ValueKit

@[expose] public section

set_option maxHeartbeats 1000000

noncomputable section

open Idealize.ShloMosaic Idealize.ShloMosaic.TcCoe Idealize.SL.Sem

namespace Cert.KernelIdeal.Hand

open Cert.KernelIdeal Cert.KernelIdeal.Gen

variable {F : FTy → Type} [FloatOps F]
variable (m : (ℓ : Loc nD τ sig) → Buf (Elt F) ℓ) (c : Dev nD)

/-- The first layer biases as one row. -/
theorem V_main_v7 : V m c main_v7 = (broadcastInDim S1x64 ![1] bcast_S64_S1x64_1 (m ((c : Thread nD τ).loc main_arg5)) : Vec F S1x64 .f32) := by
  unfold_abbrev_sides
  after_results

/-- The second layer biases as one row. -/
theorem V_main_v8 : V m c main_v8 = (broadcastInDim S1x8 ![1] bcast_S8_S1x8_1 (m ((c : Thread nD τ).loc main_arg7)) : Vec F S1x8 .f32) := by
  unfold_abbrev_sides
  after_results

/-- The output biases as one row. -/
theorem V_main_v9 : V m c main_v9 = (broadcastInDim S1x128 ![1] bcast_S128_S1x128_1 (m ((c : Thread nD τ).loc main_arg15)) : Vec F S1x128 .f32) := by
  unfold_abbrev_sides
  after_results

/-- The nine rows of coordinate parameters: the triangle points, the two rows of Gaussian centres, the two rows of line
    weights, the line biases, the two rows of hat centres, and the hat radius repeated. -/
theorem V_main_v6 : V m c main_v6 = (concatenate S9x16 0
    [⟨S1x16, (broadcastInDim S1x16 ![1] bcast_S16_S1x16_1 (m ((c : Thread nD τ).loc main_arg8)) : Vec F S1x16 .f32)⟩,
     ⟨S2x16, (transpose S2x16 [1, 0] (m ((c : Thread nD τ).loc main_arg9)) transposes_S16x2_S2x16_1_0 : Vec F S2x16 .f32)⟩,
     ⟨S2x16, (m ((c : Thread nD τ).loc main_arg10) : Vec F S2x16 .f32)⟩,
     ⟨S1x16, (broadcastInDim S1x16 ![1] bcast_S16_S1x16_1 (m ((c : Thread nD τ).loc main_arg11)) : Vec F S1x16 .f32)⟩,
     ⟨S2x16, (transpose S2x16 [1, 0] (m ((c : Thread nD τ).loc main_arg12)) transposes_S16x2_S2x16_1_0 : Vec F S2x16 .f32)⟩,
     ⟨S1x16, (broadcastInDim S1x16 ![0, 1] bcast_S1x1_S1x16_0_1 (broadcastInDim S1x1 ![0] bcast_S1_S1x1_0 (m ((c : Thread nD τ).loc main_arg13))) : Vec F S1x16 .f32)⟩]
    concatenates_S1x16_S2x16_S2x16_S1x16_S2x16_S1x16_S9x16_d0 : Vec F S9x16 .f32) := by
  unfold_abbrev_sides
  after_results
  rfl

/-- Input window 1's block is its whole array, at every point. -/
theorem iblk_1 (t : Fin cfg0.N) : (iblk m c 1 t : Vec F S128x64 .f32) = V m c main_arg4 := by
  funext j
  unfold iblk
  show V m c main_arg4 (((cfg0.win 1).blk t).view.emb j) = _
  congr 1
  funext a
  apply Fin.ext
  refine (Pipeline.Window.rect_emb_val (cfg0.win 1) t j a).trans ?_
  match a with
  | ⟨0, _⟩ => exact Nat.zero_add _
  | ⟨1, _⟩ => exact Nat.zero_add _

/-- Input window 2's block is its whole array, at every point. -/
theorem iblk_2 (t : Fin cfg0.N) : (iblk m c 2 t : Vec F S1x64 .f32) = V m c main_v7 := by
  funext j
  unfold iblk
  show V m c main_v7 (((cfg0.win 2).blk t).view.emb j) = _
  congr 1
  funext a
  apply Fin.ext
  refine (Pipeline.Window.rect_emb_val (cfg0.win 2) t j a).trans ?_
  match a with
  | ⟨0, _⟩ => exact Nat.zero_add _
  | ⟨1, _⟩ => exact Nat.zero_add _

/-- Input window 3's block is its whole array, at every point. -/
theorem iblk_3 (t : Fin cfg0.N) : (iblk m c 3 t : Vec F S64x8 .f32) = V m c main_arg6 := by
  funext j
  unfold iblk
  show V m c main_arg6 (((cfg0.win 3).blk t).view.emb j) = _
  congr 1
  funext a
  apply Fin.ext
  refine (Pipeline.Window.rect_emb_val (cfg0.win 3) t j a).trans ?_
  match a with
  | ⟨0, _⟩ => exact Nat.zero_add _
  | ⟨1, _⟩ => exact Nat.zero_add _

/-- Input window 4's block is its whole array, at every point. -/
theorem iblk_4 (t : Fin cfg0.N) : (iblk m c 4 t : Vec F S1x8 .f32) = V m c main_v8 := by
  funext j
  unfold iblk
  show V m c main_v8 (((cfg0.win 4).blk t).view.emb j) = _
  congr 1
  funext a
  apply Fin.ext
  refine (Pipeline.Window.rect_emb_val (cfg0.win 4) t j a).trans ?_
  match a with
  | ⟨0, _⟩ => exact Nat.zero_add _
  | ⟨1, _⟩ => exact Nat.zero_add _

/-- Input window 5's block is its whole array, at every point. -/
theorem iblk_5 (t : Fin cfg0.N) : (iblk m c 5 t : Vec F S9x16 .f32) = V m c main_v6 := by
  funext j
  unfold iblk
  show V m c main_v6 (((cfg0.win 5).blk t).view.emb j) = _
  congr 1
  funext a
  apply Fin.ext
  refine (Pipeline.Window.rect_emb_val (cfg0.win 5) t j a).trans ?_
  match a with
  | ⟨0, _⟩ => exact Nat.zero_add _
  | ⟨1, _⟩ => exact Nat.zero_add _

/-- Input window 6's block is its whole array, at every point. -/
theorem iblk_6 (t : Fin cfg0.N) : (iblk m c 6 t : Vec F S640x128 .f32) = V m c main_arg14 := by
  funext j
  unfold iblk
  show V m c main_arg14 (((cfg0.win 6).blk t).view.emb j) = _
  congr 1
  funext a
  apply Fin.ext
  refine (Pipeline.Window.rect_emb_val (cfg0.win 6) t j a).trans ?_
  match a with
  | ⟨0, _⟩ => exact Nat.zero_add _
  | ⟨1, _⟩ => exact Nat.zero_add _

/-- Input window 7's block is its whole array, at every point. -/
theorem iblk_7 (t : Fin cfg0.N) : (iblk m c 7 t : Vec F S1x128 .f32) = V m c main_v9 := by
  funext j
  unfold iblk
  show V m c main_v9 (((cfg0.win 7).blk t).view.emb j) = _
  congr 1
  funext a
  apply Fin.ext
  refine (Pipeline.Window.rect_emb_val (cfg0.win 7) t j a).trans ?_
  match a with
  | ⟨0, _⟩ => exact Nat.zero_add _
  | ⟨1, _⟩ => exact Nat.zero_add _

/-- The input's block number at a point is the point itself. -/
theorem idx_0 : ∀ t : Fin cfg0.N, win0_0.index t = ![t.val, 0] :=
  (by decide +kernel : ∀ t : Fin grid0.N, win0_0.index t = ![t.val, 0])

/-- Row `r` of the input block at point `t` is row `2000 t + r` of the input. -/
theorem iblk_0 (t : Fin cfg0.N) (r : Fin 2000) (k : Fin 128) (h : t.val * 2000 + r.val < 10000) :
    (iblk m c 0 t : Vec F S2000x128 .f32) (ix2 r k) = (m ((c : Thread nD τ).loc main_arg0) : Vec F S10000x128 .f32) (ix2 ⟨t.val * 2000 + r.val, h⟩ k) := by
  unfold iblk
  rw [← V_main_arg0 m c]
  show V m c main_arg0 (((cfg0.win 0).blk t).view.emb (ix2 r k)) = _
  congr 1
  funext a
  apply Fin.ext
  refine (Pipeline.Window.rect_emb_val (cfg0.win 0) t (ix2 r k) a).trans ?_
  have e : (cfg0.win 0).index t = ![t.val, 0] := idx_0 t
  rw [e]
  match a with
  | ⟨0, _⟩ => rfl
  | ⟨1, _⟩ => exact Nat.zero_add _

end Cert.KernelIdeal.Hand
-- ==== Proof.Maths.lean ====
module

public import Idealize.ShloMosaic.Lib.Claim
public import Idealize.ShloMosaic.Lib.IdealHost

@[expose] public section

set_option maxHeartbeats 1000000

noncomputable section

open Idealize.ShloMosaic

namespace Cert.Hand

/-! ## Sums cut into blocks -/

/-- A sum over `a * b` places is the sum over `a` blocks of `b` places. -/
theorem sum_blocks (a b : ℕ) (g : ℕ → EReal) :
    ∑ x : Fin (a * b), g x.val = ∑ i : Fin a, ∑ j : Fin b, g (b * i.val + j.val) := by
  rw [← Fintype.sum_prod_type' (f := fun (i : Fin a) (j : Fin b) => g (b * i.val + j.val))]
  refine Fintype.sum_equiv finProdFinEquiv.symm _ _ fun x => ?_
  obtain ⟨p, rfl⟩ := finProdFinEquiv.surjective x
  rw [Equiv.symm_apply_apply]
  show g (p.2.val + b * p.1.val) = _
  rw [Nat.add_comm]

/-- A sum over 512 places, by blocks of 64. -/
theorem sum_512 (g : Fin 512 → EReal) :
    ∑ x : Fin 512, g x = ∑ f : Fin 8, ∑ y : Fin 64, g ⟨64 * f.val + y.val, by omega⟩ := by
  have e := sum_blocks 8 64 (fun x => if h : x < 512 then g ⟨x, h⟩ else 0)
  refine Eq.trans (Finset.sum_congr rfl fun x _ => ?_) (e.trans (Finset.sum_congr rfl fun f _ => Finset.sum_congr rfl fun y _ => ?_))
  · rw [dif_pos x.isLt]
  · exact dif_pos (show 64 * f.val + y.val < 512 by omega)

/-- A sum over 64 places, by blocks of 16. -/
theorem sum_64 (g : Fin 64 → EReal) :
    ∑ x : Fin 64, g x = ∑ f : Fin 4, ∑ y : Fin 16, g ⟨16 * f.val + y.val, by omega⟩ := by
  have e := sum_blocks 4 16 (fun x => if h : x < 64 then g ⟨x, h⟩ else 0)
  refine Eq.trans (Finset.sum_congr rfl fun x _ => ?_) (e.trans (Finset.sum_congr rfl fun f _ => Finset.sum_congr rfl fun y _ => ?_))
  · rw [dif_pos x.isLt]
  · exact dif_pos (show 16 * f.val + y.val < 64 by omega)

/-- A sum over 128 places, by blocks of 16. -/
theorem sum_128 (g : Fin 128 → EReal) :
    ∑ x : Fin 128, g x = ∑ f : Fin 8, ∑ y : Fin 16, g ⟨16 * f.val + y.val, by omega⟩ := by
  have e := sum_blocks 8 16 (fun x => if h : x < 128 then g ⟨x, h⟩ else 0)
  refine Eq.trans (Finset.sum_congr rfl fun x _ => ?_) (e.trans (Finset.sum_congr rfl fun f _ => Finset.sum_congr rfl fun y _ => ?_))
  · rw [dif_pos x.isLt]
  · exact dif_pos (show 16 * f.val + y.val < 128 by omega)

/-- The group of a column. -/
def grp (j : Fin 128) : Fin 8 := ⟨j.val / 16, by omega⟩
/-- The place of a column in its group. -/
def plc (j : Fin 128) : Fin 16 := ⟨j.val % 16, by omega⟩

/-- Row `g·128 + f·16 + k` of the permuted weights is row `f·64 + g·16 + k` of the original ones. -/
def perm (i : ℕ) : ℕ := i % 128 / 16 * 64 + i / 128 * 16 + i % 16

/-- The permuted row is one of the 512. -/
theorem perm_lt {i : ℕ} (h : i < 512) : perm i < 512 := by unfold perm; omega

/-- Summing, per kind of coordinate, over the columns with the permuted weight rows is summing over all coordinates
    in their own order. -/
theorem regroup (T : Fin 4 → Fin 8 → Fin 16 → EReal) (w : Fin 512 → EReal) :
    ∑ f : Fin 8, ∑ g : Fin 4, ∑ k : Fin 16, T g f k * w ⟨64 * f.val + (16 * g.val + k.val), by omega⟩
      = ∑ g : Fin 4, ∑ j : Fin 128, T g (grp j) (plc j) * w ⟨perm (128 * g.val + j.val), perm_lt (by omega)⟩ := by
  rw [Finset.sum_comm]
  refine Finset.sum_congr rfl fun g _ => ?_
  rw [sum_128]
  refine Finset.sum_congr rfl fun f _ => Finset.sum_congr rfl fun k _ => ?_
  have h1 : grp ⟨16 * f.val + k.val, by omega⟩ = f := Fin.ext (show (16 * f.val + k.val) / 16 = f.val by omega)
  have h2 : plc ⟨16 * f.val + k.val, by omega⟩ = k := Fin.ext (show (16 * f.val + k.val) % 16 = k.val by omega)
  have h3 : perm (128 * g.val + (16 * f.val + k.val)) = 64 * f.val + (16 * g.val + k.val) := by
    unfold perm; omega
  rw [h1, h2]
  congr 2
  exact Fin.ext h3.symm

/-! ## Real numbers among the extended ones -/

/-- The value is a real number. -/
def IsR (a : EReal) : Prop := ∃ q : ℝ, a = (q : EReal)

/-- Sums of real numbers are real numbers. -/
theorem IsR.add {a b : EReal} : IsR a → IsR b → IsR (a + b)
  | ⟨p, hp⟩, ⟨q, hq⟩ => ⟨p + q, by rw [hp, hq, EReal.coe_add]⟩

/-- Products of real numbers are real numbers. -/
theorem IsR.mul {a b : EReal} : IsR a → IsR b → IsR (a * b)
  | ⟨p, hp⟩, ⟨q, hq⟩ => ⟨p * q, by rw [hp, hq, EReal.coe_mul]⟩

/-- Zero is a real number. -/
theorem IsR.zero : IsR 0 := ⟨0, rfl⟩

/-- The larger of two real numbers is a real number. -/
theorem IsR.max {a b : EReal} (ha : IsR a) (hb : IsR b) : IsR (max a b) := by
  rcases max_choice a b with h | h <;> rw [h] <;> assumption

/-- A finite sum of real numbers is a real number. -/
theorem IsR.sum {n : ℕ} {g : Fin n → EReal} (h : ∀ i, IsR (g i)) : IsR (∑ i, g i) :=
  Finset.sum_induction g IsR (fun _ _ => IsR.add) IsR.zero (fun i _ => h i)

/-- Multiplication distributes over addition on real numbers. -/
theorem IsR.mul_add {v a b : EReal} : IsR v → IsR a → IsR b → v * (a + b) = v * a + v * b
  | ⟨p, hp⟩, ⟨q, hq⟩, ⟨r, hr⟩ => by
    rw [hp, hq, hr, ← EReal.coe_add, ← EReal.coe_mul, ← EReal.coe_mul, ← EReal.coe_mul, ← EReal.coe_add, _root_.mul_add]

/-- The word of minus one half. -/
theorem ofBits_neg_half : Ideal.ofBits .f32 0xBF000000#32 = ((-(1 / 2) : ℝ) : EReal) := by
  simp [Ideal.ofBits, Ideal.ieee, -one_div]
  rw [← EReal.coe_mul]
  norm_num

/-- The word of two. -/
theorem ofBits_two : Ideal.ofBits .f32 0x40000000#32 = ((2 : ℝ) : EReal) := by
  simp [Ideal.ofBits, Ideal.ieee, -one_div]
  rw [← EReal.coe_mul]
  norm_num

/-- Half of the negative is the product with minus one half. -/
theorem neg_half (s : EReal) : Ideal.div (-s) (Ideal.ofBits .f32 0x40000000#32) = s * Ideal.ofBits .f32 0xBF000000#32 := by
  rw [ofBits_neg_half, ofBits_two]
  unfold Ideal.div
  rw [if_neg (by exact_mod_cast (two_ne_zero : (2 : ℝ) ≠ 0)), ← EReal.coe_inv, EReal.neg_mul, ← mul_neg, ← EReal.coe_neg]
  norm_num

/-! ## The layer -/

/-- The absolute value on the extended reals. -/
abbrev ab (x : EReal) : EReal := FloatOps.absf (F := Ideal) (φ := .f32) x

/-- The layer's arguments, each as a function of its coordinates. -/
structure Args where
  x : Fin 10000 → Fin 128 → EReal
  w1 : Fin 128 → Fin 64 → EReal
  b1 : Fin 64 → EReal
  w2 : Fin 64 → Fin 8 → EReal
  b2 : Fin 8 → EReal
  t : Fin 16 → EReal
  cg : Fin 16 → Fin 2 → EReal
  wl : Fin 2 → Fin 16 → EReal
  bl : Fin 16 → EReal
  ch : Fin 16 → Fin 2 → EReal
  rh : EReal
  ow : Fin 640 → Fin 128 → EReal
  ob : Fin 128 → EReal

namespace Args

variable (A : Args)

/-- Filtration `f` of node `r`: the two-layer network. -/
def v (r : Fin 10000) (f : Fin 8) : EReal :=
  ∑ h : Fin 64, max (∑ k : Fin 128, A.x r k * A.w1 k h + A.b1 h) 0 * A.w2 h f + A.b2 f

/-- The triangle coordinate at a filtration value. -/
def tri (v : EReal) (k : Fin 16) : EReal := max (v - ab (v - A.t k)) 0

/-- The Gaussian coordinate, as the kernel computes it. -/
def gau (v : EReal) (k : Fin 16) : EReal :=
  Ideal.exp (((v - A.cg k 0) * (v - A.cg k 0) + (v - A.cg k 1) * (v - A.cg k 1)) * Ideal.ofBits .f32 0xBF000000#32)

/-- The Gaussian coordinate, as the reference computes it. -/
def gauR (v : EReal) (k : Fin 16) : EReal :=
  Ideal.exp (Ideal.div (-((v - A.cg k 0) * (v - A.cg k 0) + (v - A.cg k 1) * (v - A.cg k 1))) (Ideal.ofBits .f32 0x40000000#32))

/-- The line coordinate, as the kernel computes it. -/
def lin (v : EReal) (k : Fin 16) : EReal := v * (A.wl 0 k + A.wl 1 k) + A.bl k

/-- The line coordinate, as the reference computes it. -/
def linR (v : EReal) (k : Fin 16) : EReal := v * A.wl 0 k + v * A.wl 1 k + A.bl k

/-- The distance of the hat coordinate. -/
def dst (v : EReal) (k : Fin 16) : EReal := ab (v - A.ch k 0) + ab (v - A.ch k 1)

/-- The hat coordinate. -/
def hat (v : EReal) (k : Fin 16) : EReal :=
  Ideal.div 1 (1 + A.dst v k) - Ideal.div 1 (1 + ab (ab A.rh - A.dst v k))

/-- The four kinds of coordinate, as the kernel computes them. -/
def crd (g : Fin 4) (v : EReal) (k : Fin 16) : EReal := (![A.tri, A.gau, A.lin, A.hat] : Fin 4 → EReal → Fin 16 → EReal) g v k

/-- The four kinds of coordinate, as the reference computes them. -/
def crdR (g : Fin 4) (v : EReal) (k : Fin 16) : EReal := (![A.tri, A.gauR, A.linR, A.hat] : Fin 4 → EReal → Fin 16 → EReal) g v k

/-- One kind's share of the last layer, with the permuted weights. -/
def part (g : Fin 4) (r : Fin 10000) (n : Fin 128) : EReal :=
  ∑ j : Fin 128, A.crd g (A.v r (grp j)) (plc j) * A.ow ⟨128 + perm (128 * g.val + j.val), by have := perm_lt (show 128 * g.val + j.val < 512 by omega); omega⟩ n

/-- The layer at an index, in the kernel's order. -/
def kOut (r : Fin 10000) (n : Fin 128) : EReal :=
  max (∑ k : Fin 128, A.x r k * A.ow ⟨k.val, by omega⟩ n + A.part 0 r n + A.part 1 r n + A.part 2 r n + A.part 3 r n + A.ob n) 0

/-- The layer at an index, in the reference's order. -/
def rOut (r : Fin 10000) (n : Fin 128) : EReal :=
  max (∑ k : Fin 128, A.x r k * A.ow ⟨k.val, by omega⟩ n
    + ∑ f : Fin 8, ∑ g : Fin 4, ∑ k : Fin 16, A.crdR g (A.v r f) k * A.ow ⟨128 + (64 * f.val + (16 * g.val + k.val)), by omega⟩ n + A.ob n) 0

/-- The arguments that must be finite. -/
structure Finite : Prop where
  x : ∀ r k, IsR (A.x r k)
  w1 : ∀ k h, IsR (A.w1 k h)
  b1 : ∀ h, IsR (A.b1 h)
  w2 : ∀ h f, IsR (A.w2 h f)
  b2 : ∀ f, IsR (A.b2 f)
  wl : ∀ d k, IsR (A.wl d k)

variable {A}

/-- The filtrations are then finite. -/
theorem Finite.v (h : A.Finite) (r : Fin 10000) (f : Fin 8) : IsR (A.v r f) :=
  (IsR.sum fun i => ((((IsR.sum fun k => (h.x r k).mul (h.w1 k i)).add (h.b1 i)).max IsR.zero).mul (h.w2 i f))).add (h.b2 f)

/-- The two readings of the coordinates agree where the filtration and the line weights are finite. -/
theorem Finite.crd_eq (h : A.Finite) (g : Fin 4) {u : EReal} (hu : IsR u) (k : Fin 16) : A.crdR g u k = A.crd g u k := by
  match g with
  | 0 => rfl
  | 1 => exact congrArg Ideal.exp (neg_half _)
  | 2 => exact congrArg (· + A.bl k) (hu.mul_add (h.wl 0 k) (h.wl 1 k)).symm
  | 3 => rfl

/-- The two orders give the same value. -/
theorem Finite.out_eq (h : A.Finite) (r : Fin 10000) (n : Fin 128) : A.rOut r n = A.kOut r n := by
  unfold rOut kOut
  have e := regroup (fun g f k => A.crd g (A.v r f) k) (fun i => A.ow ⟨128 + i.val, by omega⟩ n)
  rw [Fin.sum_univ_four (f := fun g : Fin 4 => _)] at e
  simp only [h.crd_eq _ (h.v r _)]
  refine congrArg (max · 0) (congrArg (· + A.ob n) ?_)
  refine (congrArg (_ + ·) e).trans ?_
  rw [← add_assoc, ← add_assoc, ← add_assoc]
  rfl

end Args

end Cert.Hand
-- ==== Proof.Sel.lean ====
module

public import proofs.«01_k».proof.Proof.Cases
public import proofs.«01_k».proof.Proof.Maths
public import Idealize.ShloMosaic.Lib.Claim
public import Idealize.ShloMosaic.Lib.Pointwise

@[expose] public section

set_option maxHeartbeats 1000000

noncomputable section

open Idealize.ShloMosaic Idealize.ShloMosaic.TcCoe Idealize.SL.Sem

namespace Cert.KernelIdeal.Hand

open Cert.KernelIdeal Cert.KernelIdeal.Gen Cert.Hand

/-- The float of an equality test is one where the words agree and zero elsewhere. -/
theorem ind_at (a b : BitVec 32) :
    FloatOps.sitofp (F := Ideal) .f32 (BitVec.setWidth 32 (IntOp.cmpi .eq a b)) = if a = b then 1 else 0 := by
  show (((BitVec.setWidth 32 (BitVec.ofBool (a == b))).toInt : ℝ) : EReal) = _
  by_cases h : a = b
  · rw [if_pos h, h, beq_self_eq_true, show (BitVec.setWidth 32 (BitVec.ofBool true)).toInt = 1 from by decide]
    norm_num
  · rw [if_neg h, beq_eq_false_iff_ne.2 h, show (BitVec.setWidth 32 (BitVec.ofBool false)).toInt = 0 from by decide]
    norm_num

/-- Small numbers give different words. -/
theorem ofNat_inj {a b : ℕ} (ha : a < 1024) (hb : b < 1024) : BitVec.ofNat 32 a = BitVec.ofNat 32 b ↔ a = b := by
  constructor
  · intro h
    have := congrArg BitVec.toNat h
    rw [BitVec.toNat_ofNat, BitVec.toNat_ofNat] at this
    omega
  · exact congrArg _

/-- Floor division of a word by a positive word, as signed division with a correction. -/
def floorW (a d : BitVec 32) : BitVec 32 :=
  Scalar.select
    (IntOp.andi
      (IntOp.cmpi .ne (IntOp.subi (BitVec.setWidth 32 (IntOp.cmpi .sgt a 0#32)) (BitVec.setWidth 32 (IntOp.cmpi .slt a 0#32)))
        (Scalar.subi (Scalar.extui (Scalar.cmpi .sgt d 0#32)) (Scalar.extui (Scalar.cmpi .slt d 0#32))))
      (IntOp.cmpi .ne (IntOp.remsi .vector a d) 0#32))
    (IntOp.subi (IntOp.divsi .vector a d) 1#32) (IntOp.divsi .vector a d)

/-- On the column numbers it is division by sixteen. -/
theorem floorW_16 : ∀ j : Fin 128, floorW (BitVec.ofNat 32 j.val) 16#32 = BitVec.ofNat 32 (j.val / 16) := by
  decide +kernel

/-- The group-select matrix: row `f` is one at the sixteen columns of group `f`. -/
theorem pay5_at (f : Fin 8) (j : Fin 128) : k0_pay5 (F := Ideal) (ix2 f j) = if j.val / 16 = f.val then 1 else 0 := by
  pointwise [k0_pay5]
  have e := ind_at (floorW (BitVec.ofNat 32 j.val) 16#32) (BitVec.ofNat 32 f.val)
  rw [floorW_16 j] at e
  refine Eq.trans (Eq.trans ?_ e) ?_
  · rw [← floorW_16 j]; rfl
  · simp only [ofNat_inj (show j.val / 16 < 1024 by omega) (show f.val < 1024 by omega)]

/-- The sum a row of zeros with a single one picks out. -/
theorem sum_pick {n : ℕ} (g : Fin n → EReal) (k : Fin n) : ∑ x : Fin n, g x * (if k.val = x.val then 1 else 0) = g k := by
  rw [Finset.sum_eq_single k]
  · rw [if_pos rfl, mul_one]
  · intro b _ hb
    rw [if_neg (fun h => hb (Fin.ext h.symm)), mul_zero]
  · intro h; exact absurd (Finset.mem_univ k) h

/-- The same with the factors the other way round. -/
theorem sum_pick' {n : ℕ} (g : Fin n → EReal) (k : Fin n) : ∑ x : Fin n, (if k.val = x.val then 1 else 0) * g x = g k := by
  simp only [mul_comm _ (g _)]
  exact sum_pick g k

/-- The expanded second-layer weights: column `j` is column `j / 16` of the weights. -/
theorem pay6_at (x3 : Vec Ideal S64x8 .f32) (i : Fin 64) (j : Fin 128) : k0_pay6 (F := Ideal) x3 (ix2 i j) = x3 (ix2 i (grp j)) := by
  pointwise [k0_pay6]
  simp only [pay5_at]
  exact sum_pick (fun x => x3 (ix2 i x)) (grp j)

/-- The expanded second-layer biases: column `j` is bias `j / 16`. -/
theorem pay7_at (x4 : Vec Ideal S1x8 .f32) (j : Fin 128) : k0_pay7 (F := Ideal) x4 (ix2 0 j) = x4 (ix2 0 (grp j)) := by
  pointwise [k0_pay7]
  simp only [pay5_at]
  exact sum_pick (fun x => x4 (ix2 0 x)) (grp j)

/-- Modulo of a word by a positive word, as a signed remainder with a correction. -/
def modW (a d : BitVec 32) : BitVec 32 :=
  have d' := Scalar.select (Scalar.cmpi .eq d 0#32) 1#32 d
  Scalar.select
    (IntOp.andi (IntOp.xori (IntOp.cmpi .slt (IntOp.remsi .vector a d') 0#32) (Scalar.cmpi .slt d' 0#32))
      (IntOp.cmpi .ne (IntOp.remsi .vector a d') 0#32))
    (IntOp.addi (IntOp.remsi .vector a d') d') (IntOp.remsi .vector a d')

/-- On the column numbers it is the remainder by sixteen. -/
theorem modW_16 : ∀ j : Fin 128, modW (BitVec.ofNat 32 j.val) 16#32 = BitVec.ofNat 32 (j.val % 16) := by
  decide +kernel

/-- The expanded coordinate parameters: column `j` is column `j mod 16` of the parameters. -/
theorem csOf_at (x5 : Vec Ideal S9x16 .f32) (i : Fin 9) (j : Fin 128) : csOf (F := Ideal) x5 (ix2 i j) = x5 (ix2 i (plc j)) := by
  pointwise [csOf, k0_pay9]
  refine Eq.trans (Finset.sum_congr rfl fun x _ => congrArg (x5 (ix2 i x) * ·)
    (?_ : _ = if (plc j).val = x.val then (1 : EReal) else 0)) (sum_pick (fun x => x5 (ix2 i x)) (plc j))
  have e := ind_at (modW (BitVec.ofNat 32 j.val) 16#32) (BitVec.ofNat 32 x.val)
  rw [modW_16 j] at e
  refine Eq.trans (Eq.trans ?_ e) ?_
  · rw [← modW_16 j]; rfl
  · simp only [ofNat_inj (show j.val % 16 < 1024 by omega) (show x.val < 1024 by omega)]; rfl

/-- The row permutation as the kernel's words compute it. -/
def permW (a : BitVec 32) : BitVec 32 :=
  IntOp.addi (IntOp.addi (IntOp.muli (floorW (modW a 128#32) 16#32) 64#32) (IntOp.muli (floorW a 128#32) 16#32)) (modW a 16#32)

/-- On the row numbers it is the permutation. -/
theorem permW_eq : ∀ i : Fin 512, permW (BitVec.ofNat 32 i.val) = BitVec.ofNat 32 (perm i.val) := by
  decide +kernel

/-- The permuted output weights: row `i` is row `128 + perm i` of the output weights. -/
theorem wsOf_at (x6 : Vec Ideal S640x128 .f32) (i : Fin 512) (n : Fin 128) (h : 128 + perm i.val < 640) :
    wsOf (F := Ideal) x6 (ix2 i n) = x6 (ix2 ⟨128 + perm i.val, h⟩ n) := by
  pointwise [wsOf, k0_pay8, k0_pay4, k0_pay3, k0_pay2]
  refine Eq.trans (Finset.sum_congr rfl fun x _ => congrArg (· * _)
    (?_ : _ = if perm i.val = x.val then (1 : EReal) else 0)) ?_
  · have e := ind_at (permW (BitVec.ofNat 32 i.val)) (BitVec.ofNat 32 x.val)
    rw [permW_eq i] at e
    refine Eq.trans (Eq.trans ?_ e) ?_
    · rw [← permW_eq i]; rfl
    · simp only [ofNat_inj (show perm i.val < 1024 from lt_trans (perm_lt i.isLt) (by decide)) (show x.val < 1024 by omega)]
  · exact sum_pick' (fun x : Fin 512 => x6 (ix2 ⟨128 + x.val, by omega⟩ n)) ⟨perm i.val, perm_lt i.isLt⟩

end Cert.KernelIdeal.Hand
-- ==== Proof.Point.lean ====
module

public import proofs.«01_k».proof.Proof.Cases
public import proofs.«01_k».proof.Proof.Maths
public import Idealize.ShloMosaic.Lib.Claim
public import Idealize.ShloMosaic.Lib.Pointwise

@[expose] public section

set_option maxHeartbeats 1000000

noncomputable section

open Idealize.ShloMosaic Idealize.ShloMosaic.TcCoe Idealize.SL.Sem

namespace Cert.KernelIdeal.Hand

open Cert.KernelIdeal Cert.KernelIdeal.Gen Cert.Hand

/-- The first layer of a block at an index. -/
theorem pay12_at (x0 : Vec Ideal S2000x128 .f32) (x1 : Vec Ideal S128x64 .f32) (x2 : Vec Ideal S1x64 .f32) (r : Fin 2000) (h : Fin 64) :
    k0_pay12 x0 x1 x2 (ix2 r h) = max (∑ k : Fin 128, x0 (ix2 r k) * x1 (ix2 k h) + x2 (ix2 0 h)) 0 := by
  pointwise [k0_pay12]

variable (y : Vec Ideal S2000x64 .f32) (w2 : Vec Ideal S64x128 .f32) (b2 : Vec Ideal S1x128 .f32) (r : Fin 2000) (j : Fin 128)
variable (a b c : Vec Ideal S1x128 .f32)

/-- The second layer of a block at an index. -/
theorem pay13_at : k0_pay13 y w2 b2 (ix2 r j) = ∑ h : Fin 64, y (ix2 r h) * w2 (ix2 h j) + b2 (ix2 0 j) := by
  pointwise [k0_pay13]

/-- The triangle coordinates at an index. -/
theorem pay14_at : k0_pay14 a y w2 b2 (ix2 r j) = max (k0_pay13 y w2 b2 (ix2 r j) - ab (k0_pay13 y w2 b2 (ix2 r j) - a (ix2 0 j))) 0 := by
  pointwise [k0_pay14]

/-- The Gaussian coordinates at an index. -/
theorem pay15_at : k0_pay15 a b y w2 b2 (ix2 r j)
    = Ideal.exp (((k0_pay13 y w2 b2 (ix2 r j) - a (ix2 0 j)) * (k0_pay13 y w2 b2 (ix2 r j) - a (ix2 0 j))
      + (k0_pay13 y w2 b2 (ix2 r j) - b (ix2 0 j)) * (k0_pay13 y w2 b2 (ix2 r j) - b (ix2 0 j))) * Ideal.ofBits .f32 0xBF000000#32) := by
  pointwise [k0_pay15]

/-- The line coordinates at an index. -/
theorem pay16_at : k0_pay16 (k0_pay10 a b) c y w2 b2 (ix2 r j) = k0_pay13 y w2 b2 (ix2 r j) * (a (ix2 0 j) + b (ix2 0 j)) + c (ix2 0 j) := by
  pointwise [k0_pay16, k0_pay10]

/-- The hat coordinates at an index. -/
theorem pay17_at : k0_pay17 a b (k0_pay11 c) y w2 b2 (ix2 r j)
    = Ideal.div 1 (1 + (ab (k0_pay13 y w2 b2 (ix2 r j) - a (ix2 0 j)) + ab (k0_pay13 y w2 b2 (ix2 r j) - b (ix2 0 j))))
      - Ideal.div 1 (1 + ab (ab (c (ix2 0 j)) - (ab (k0_pay13 y w2 b2 (ix2 r j) - a (ix2 0 j)) + ab (k0_pay13 y w2 b2 (ix2 r j) - b (ix2 0 j))))) := by
  pointwise [k0_pay17, k0_pay11]

/-- A row of the parameters at an index. -/
theorem cRow_at (q : ℕ) (inb : ∀ a, (![q, 0] : Fin 2 → Nat) a + S1x128.size a ≤ S9x128.size a) (cs : Vec Ideal S9x128 .f32) (h : q < 9) :
    cRow q inb cs (ix2 0 j) = cs (ix2 ⟨q, h⟩ j) := by
  pointwise [cRow]

/-- The block at an index: the input's share, the four kinds' shares and the bias. -/
theorem blkOf_at (x0 : Vec Ideal S2000x128 .f32) (x1 : Vec Ideal S128x64 .f32) (x2 : Vec Ideal S1x64 .f32) (x6 : Vec Ideal S640x128 .f32)
    (x7 : Vec Ideal S1x128 .f32) (ws : Vec Ideal S512x128 .f32) (cs : Vec Ideal S9x128 .f32) (n : Fin 128) :
    blkOf x0 x1 x2 x6 x7 ws cs w2 b2 (ix2 r n) =
      max (∑ k : Fin 128, x0 (ix2 r k) * x6 (ix2 ⟨k.val, by omega⟩ n)
        + ∑ j : Fin 128, k0_pay14 (cRow 0 inb_S9x128_S1x128_0_0 cs) (k0_pay12 x0 x1 x2) w2 b2 (ix2 r j) * ws (ix2 ⟨j.val, by omega⟩ n)
        + ∑ j : Fin 128, k0_pay15 (cRow 1 inb_S9x128_S1x128_1_0 cs) (cRow 2 inb_S9x128_S1x128_2_0 cs) (k0_pay12 x0 x1 x2) w2 b2 (ix2 r j) * ws (ix2 ⟨128 + j.val, by omega⟩ n)
        + ∑ j : Fin 128, k0_pay16 (k0_pay10 (cRow 3 inb_S9x128_S1x128_3_0 cs) (cRow 4 inb_S9x128_S1x128_4_0 cs)) (cRow 5 inb_S9x128_S1x128_5_0 cs) (k0_pay12 x0 x1 x2) w2 b2 (ix2 r j) * ws (ix2 ⟨256 + j.val, by omega⟩ n)
        + ∑ j : Fin 128, k0_pay17 (cRow 6 inb_S9x128_S1x128_6_0 cs) (cRow 7 inb_S9x128_S1x128_7_0 cs) (k0_pay11 (cRow 8 inb_S9x128_S1x128_8_0 cs)) (k0_pay12 x0 x1 x2) w2 b2 (ix2 r j) * ws (ix2 ⟨384 + j.val, by omega⟩ n)
        + x7 (ix2 0 n)) 0 := by
  pointwise [blkOf, k0_pay1, k0_pay18, wRows, cRow]

end Cert.KernelIdeal.Hand
-- ==== Proof.KernelAt.lean ====
module

public import proofs.«01_k».proof.Proof.Fold
public import proofs.«01_k».proof.Proof.Blocks
public import proofs.«01_k».proof.Proof.Sel
public import proofs.«01_k».proof.Proof.Point

@[expose] public section

set_option maxHeartbeats 1000000

noncomputable section

open Idealize.ShloMosaic Idealize.ShloMosaic.TcCoe Idealize.SL.Sem

namespace Cert.KernelIdeal.Hand

open Cert.KernelIdeal Cert.KernelIdeal.Gen Cert.Hand

variable (m : (ℓ : Loc nD τ sig) → Buf (Elt Ideal) ℓ) (c : Dev nD)

/-- The kernel's arguments as functions of their coordinates. -/
def argsOf : Args where
  x := fun i j => (m ((c : Thread nD τ).loc main_arg0) : Vec Ideal S10000x128 .f32) (ix2 i j)
  w1 := fun i j => (m ((c : Thread nD τ).loc main_arg4) : Vec Ideal S128x64 .f32) (ix2 i j)
  b1 := fun i => (m ((c : Thread nD τ).loc main_arg5) : Vec Ideal S64 .f32) (ix1 i)
  w2 := fun i j => (m ((c : Thread nD τ).loc main_arg6) : Vec Ideal S64x8 .f32) (ix2 i j)
  b2 := fun i => (m ((c : Thread nD τ).loc main_arg7) : Vec Ideal S8 .f32) (ix1 i)
  t := fun i => (m ((c : Thread nD τ).loc main_arg8) : Vec Ideal S16 .f32) (ix1 i)
  cg := fun i j => (m ((c : Thread nD τ).loc main_arg9) : Vec Ideal S16x2 .f32) (ix2 i j)
  wl := fun i j => (m ((c : Thread nD τ).loc main_arg10) : Vec Ideal S2x16 .f32) (ix2 i j)
  bl := fun i => (m ((c : Thread nD τ).loc main_arg11) : Vec Ideal S16 .f32) (ix1 i)
  ch := fun i j => (m ((c : Thread nD τ).loc main_arg12) : Vec Ideal S16x2 .f32) (ix2 i j)
  rh := (m ((c : Thread nD τ).loc main_arg13) : Vec Ideal S1 .f32) (ix1 0)
  ow := fun i j => (m ((c : Thread nD τ).loc main_arg14) : Vec Ideal S640x128 .f32) (ix2 i j)
  ob := fun i => (m ((c : Thread nD τ).loc main_arg15) : Vec Ideal S128 .f32) (ix1 i)

/-- Row 0 of the coordinate parameters. -/
theorem raw_0 (k : Fin 16) : (V m c main_v6 : Vec Ideal S9x16 .f32) (ix2 0 k) = (argsOf m c).t k := by
  rw [V_main_v6]
  pointwise []
  rfl

/-- Row 1 of the coordinate parameters. -/
theorem raw_1 (k : Fin 16) : (V m c main_v6 : Vec Ideal S9x16 .f32) (ix2 1 k) = (argsOf m c).cg k 0 := by
  rw [V_main_v6]
  pointwise []
  rfl

/-- Row 2 of the coordinate parameters. -/
theorem raw_2 (k : Fin 16) : (V m c main_v6 : Vec Ideal S9x16 .f32) (ix2 2 k) = (argsOf m c).cg k 1 := by
  rw [V_main_v6]
  pointwise []
  rfl

/-- Row 3 of the coordinate parameters. -/
theorem raw_3 (k : Fin 16) : (V m c main_v6 : Vec Ideal S9x16 .f32) (ix2 3 k) = (argsOf m c).wl 0 k := by
  rw [V_main_v6]
  pointwise []
  rfl

/-- Row 4 of the coordinate parameters. -/
theorem raw_4 (k : Fin 16) : (V m c main_v6 : Vec Ideal S9x16 .f32) (ix2 4 k) = (argsOf m c).wl 1 k := by
  rw [V_main_v6]
  pointwise []
  rfl

/-- Row 5 of the coordinate parameters. -/
theorem raw_5 (k : Fin 16) : (V m c main_v6 : Vec Ideal S9x16 .f32) (ix2 5 k) = (argsOf m c).bl k := by
  rw [V_main_v6]
  pointwise []
  rfl

/-- Row 6 of the coordinate parameters. -/
theorem raw_6 (k : Fin 16) : (V m c main_v6 : Vec Ideal S9x16 .f32) (ix2 6 k) = (argsOf m c).ch k 0 := by
  rw [V_main_v6]
  pointwise []
  rfl

/-- Row 7 of the coordinate parameters. -/
theorem raw_7 (k : Fin 16) : (V m c main_v6 : Vec Ideal S9x16 .f32) (ix2 7 k) = (argsOf m c).ch k 1 := by
  rw [V_main_v6]
  pointwise []
  rfl

/-- Row 8 of the coordinate parameters. -/
theorem raw_8 (k : Fin 16) : (V m c main_v6 : Vec Ideal S9x16 .f32) (ix2 8 k) = (argsOf m c).rh := by
  rw [V_main_v6]
  pointwise []
  rfl

/-- The expanded parameters at an index. -/
theorem cs_at (i : Fin 9) (j : Fin 128) : csOf (F := Ideal) (iblk m c 5 pt0) (ix2 i j) = (V m c main_v6 : Vec Ideal S9x16 .f32) (ix2 i (plc j)) := by
  rw [iblk_5, csOf_at]

/-- The filtrations of a block, expanded to the columns. -/
theorem v_at (t : Fin cfg0.N) (r : Fin 2000) (j : Fin 128) (h : t.val * 2000 + r.val < 10000) :
    k0_pay13 (k0_pay12 (iblk m c 0 t) (iblk m c 1 t) (iblk m c 2 t)) (k0_pay6 (iblk m c 3 pt0)) (k0_pay7 (iblk m c 4 pt0)) (ix2 r j)
      = (argsOf m c).v ⟨t.val * 2000 + r.val, h⟩ (grp j) := by
  rw [pay13_at, iblk_1, iblk_2, iblk_3, iblk_4, pay7_at, V_main_v7, V_main_v8, V_main_arg4, V_main_arg6]
  unfold Args.v
  refine congrArg₂ (· + ·) (Finset.sum_congr rfl fun h' _ => ?_) ?_
  · rw [pay12_at, pay6_at]
    refine congrArg₂ (· * ·) (congrArg (max · 0) (congrArg₂ (· + ·) (Finset.sum_congr rfl fun k _ => ?_) ?_)) rfl
    · rw [iblk_0 m c t r k h]
      rfl
    · pointwise []
      rfl
  · pointwise []
    rfl

/-- The permuted weights at an index. -/
theorem ws_at (i : Fin 512) (n : Fin 128) : wsOf (F := Ideal) (iblk m c 6 pt0) (ix2 i n) = (argsOf m c).ow ⟨128 + perm i.val, by have := perm_lt i.isLt; omega⟩ n := by
  rw [iblk_6, wsOf_at _ _ _ (by have := perm_lt i.isLt; omega), V_main_arg14]
  rfl

/-- The block after point `t`, at an index. -/
theorem st_at (t : Fin cfg0.N) (r : Fin 2000) (n : Fin 128) (h : t.val * 2000 + r.val < 10000) :
    (stOf m c t).1 (ix2 r n) = (argsOf m c).kOut ⟨t.val * 2000 + r.val, h⟩ n := by
  unfold stOf Args.kOut Args.part
  dsimp only
  rw [blkOf_at]
  refine congrArg (max · 0) (congrArg₂ (· + ·) (congrArg₂ (· + ·) (congrArg₂ (· + ·) (congrArg₂ (· + ·) (congrArg₂ (· + ·) ?_ ?_) ?_) ?_) ?_) ?_)
  · refine Finset.sum_congr rfl fun k _ => ?_
    rw [iblk_0 m c t r k h, iblk_6, V_main_arg14]
    rfl
  · refine Finset.sum_congr rfl fun j _ => ?_
    rw [pay14_at, v_at m c t r j h, cRow_at _ 0 _ _ (by decide), ws_at]
    refine congrArg₂ (· * ·) ?_ ?_
    · rw [show csOf (F := Ideal) (iblk m c 5 pt0) (ix2 ⟨0, by decide⟩ j) = _ from (cs_at m c 0 j).trans (raw_0 m c (plc j))]
      rfl
    · exact congrArg (fun z => (argsOf m c).ow z n) (Fin.ext (congrArg (fun z => 128 + perm z) (show j.val = 128 * 0 + j.val by omega)))
  · refine Finset.sum_congr rfl fun j _ => ?_
    rw [pay15_at, v_at m c t r j h, cRow_at _ 1 _ _ (by decide), cRow_at _ 2 _ _ (by decide), ws_at]
    refine congrArg₂ (· * ·) ?_ ?_
    · rw [show csOf (F := Ideal) (iblk m c 5 pt0) (ix2 ⟨1, by decide⟩ j) = _ from (cs_at m c 1 j).trans (raw_1 m c (plc j)), show csOf (F := Ideal) (iblk m c 5 pt0) (ix2 ⟨2, by decide⟩ j) = _ from (cs_at m c 2 j).trans (raw_2 m c (plc j))]
      rfl
    · rfl
  · refine Finset.sum_congr rfl fun j _ => ?_
    rw [pay16_at, v_at m c t r j h, cRow_at _ 3 _ _ (by decide), cRow_at _ 4 _ _ (by decide), cRow_at _ 5 _ _ (by decide), ws_at]
    refine congrArg₂ (· * ·) ?_ ?_
    · rw [show csOf (F := Ideal) (iblk m c 5 pt0) (ix2 ⟨3, by decide⟩ j) = _ from (cs_at m c 3 j).trans (raw_3 m c (plc j)), show csOf (F := Ideal) (iblk m c 5 pt0) (ix2 ⟨4, by decide⟩ j) = _ from (cs_at m c 4 j).trans (raw_4 m c (plc j)), show csOf (F := Ideal) (iblk m c 5 pt0) (ix2 ⟨5, by decide⟩ j) = _ from (cs_at m c 5 j).trans (raw_5 m c (plc j))]
      rfl
    · rfl
  · refine Finset.sum_congr rfl fun j _ => ?_
    rw [pay17_at, v_at m c t r j h, cRow_at _ 6 _ _ (by decide), cRow_at _ 7 _ _ (by decide), cRow_at _ 8 _ _ (by decide), ws_at]
    refine congrArg₂ (· * ·) ?_ ?_
    · rw [show csOf (F := Ideal) (iblk m c 5 pt0) (ix2 ⟨6, by decide⟩ j) = _ from (cs_at m c 6 j).trans (raw_6 m c (plc j)), show csOf (F := Ideal) (iblk m c 5 pt0) (ix2 ⟨7, by decide⟩ j) = _ from (cs_at m c 7 j).trans (raw_7 m c (plc j)), show csOf (F := Ideal) (iblk m c 5 pt0) (ix2 ⟨8, by decide⟩ j) = _ from (cs_at m c 8 j).trans (raw_8 m c (plc j))]
      rfl
    · rfl
  · rw [iblk_7, V_main_v9]
    pointwise []
    rfl

/-- The kernel's result at an index. -/
theorem G8_at (r : Fin 10000) (n : Fin 128) : Value.G8 m c (ix2 r n) = (argsOf m c).kOut r n := by
  have hq : r.val / 2000 < cfg0.N := by rw [show cfg0.N = 5 from N_0]; omega
  have e : r.val / 2000 * 2000 + r.val % 2000 = r.val := by omega
  have hl : Value.loc8Of (ix2 r n) = ix2 ⟨r.val % 2000, Nat.mod_lt _ (by decide)⟩ n := by
    funext a
    match a with
    | ⟨0, _⟩ => rfl
    | ⟨1, _⟩ => exact Fin.ext (Nat.mod_eq_of_lt n.isLt)
  refine (G8_eq m c (ix2 r n) hq).trans ?_
  rw [hl]
  refine (st_at m c ⟨r.val / 2000, hq⟩ ⟨r.val % 2000, Nat.mod_lt _ (by decide)⟩ n (by dsimp only; omega)).trans ?_
  exact congrArg (fun z => (argsOf m c).kOut z n) (Fin.ext e)

end Cert.KernelIdeal.Hand
-- ==== Proof.Pre.lean ====
module

public import proofs.«01_k».proof.Defs
public import proofs.«01_k».proof.Proof.KernelAt

@[expose] public section

set_option maxHeartbeats 1000000

noncomputable section

open Idealize.ShloMosaic Idealize.ShloMosaic.TcCoe Idealize.SL.Sem

namespace Cert.Hand

open Cert.KernelIdeal.Hand

/-- The shape conditions the precondition states. -/
theorem preFacts : Cert.Pre_mlp_finite.Facts where
  bcast_S_S10000x128 := by decide
  bcast_S_S128x64 := by decide
  bcast_S_S64 := by decide
  bcast_S_S64x8 := by decide
  bcast_S_S8 := by decide
  bcast_S_S2x16 := by decide

/-- A value whose absolute value is below infinity is a real number. -/
theorem isR_of_lt (x : Ideal .f32) (h : FloatOps.cmpf .olt (FloatOps.hostAbsf x) (FloatOps.ofBits (F := Ideal) .f32 0x7F800000#32) = 1#1) : IsR x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  rw [max_lt_iff] at hlt
  have h1 : (x : EReal) ≠ ⊤ := hlt.1.ne
  have h2 : (x : EReal) ≠ ⊥ := fun hb => hlt.2.ne (by rw [hb]; rfl)
  exact ⟨EReal.toReal x, (EReal.coe_toReal h1 h2).symm⟩

attribute [local instance] preFacts

/-- The precondition makes the network's arguments and the line weights finite. -/
theorem finite_of_pre (m : (ℓ : Loc Cert.KernelIdeal.nD Cert.KernelIdeal.τ Cert.KernelIdeal.sig) → Buf (Elt Ideal) ℓ)
    (h : Cert.Pre_KernelIdeal_mlp_finite m) (c : Dev Cert.KernelIdeal.nD) : (argsOf m c).Finite := by
  obtain ⟨h0, h1, h2, h3, h4, h5⟩ := h c
  exact ⟨fun i j => isR_of_lt _ (congrFun h0 (ix2 i j)), fun i j => isR_of_lt _ (congrFun h1 (ix2 i j)),
    fun i => isR_of_lt _ (congrFun h2 (ix1 i)), fun i j => isR_of_lt _ (congrFun h3 (ix2 i j)),
    fun i => isR_of_lt _ (congrFun h4 (ix1 i)), fun i j => isR_of_lt _ (congrFun h5 (ix2 i j))⟩

end Cert.Hand
-- ==== Proof.RefCoord.lean ====
module

public import proofs.«01_k».proof.Defs
public import proofs.«01_k».proof.Proof.Maths
public import proofs.«01_k».proof.Proof.Gen.ReferenceIdeal.Run
public import Idealize.ShloMosaic.Lib.Claim
public import Idealize.ShloMosaic.Lib.Pointwise

@[expose] public section

set_option maxHeartbeats 1000000

noncomputable section

open Idealize.ShloMosaic Idealize.ShloMosaic.TcCoe Idealize.SL.Sem

namespace Cert.ReferenceIdeal.Hand

open Cert.ReferenceIdeal Cert.ReferenceIdeal.Facts₀ Cert.ReferenceIdeal.Facts Cert.ReferenceIdeal.Value Cert.Hand

section
variable {F : FTy → Type} [FloatOps F]

/-- The filtrations: the two-layer network's outputs. -/
def pRef (x : Vec F S10000x128 .f32) (w1 : Vec F S128x64 .f32) (b1 : Vec F S64 .f32) (w2 : Vec F S64x8 .f32) (b2 : Vec F S8 .f32) : Vec F S10000x8 .f32 :=
  addf (Host.dotGeneral dot_S10000x64_S64x8_S10000x8_1_0_0_1_n_n none (maximumf (addf (Host.dotGeneral dot_S10000x128_S128x64_S10000x64_1_0_0_1_n_n none x w1) (broadcastInDim S10000x64 ![0, 1] bcast_S1x64_S10000x64_0_1 (broadcastInDim S1x64 ![1] bcast_S64_S1x64_1 b1))) (broadcastInDim S10000x64 ![] bcast_S_S10000x64 (constant S_ .f32 0x00000000#32))) w2) (broadcastInDim S10000x8 ![0, 1] bcast_S1x8_S10000x8_0_1 (broadcastInDim S1x8 ![1] bcast_S8_S1x8_1 b2))

/-- Every filtration as a list of points with two equal coordinates. -/
def ptsAll (p : Vec F S10000x8 .f32) : Vec F S8x10000x2 .f32 :=
  transpose S8x10000x2 [1, 0, 2] (broadcastInDim S10000x8x2 ![0, 1, 2] bcast_S10000x8x1_S10000x8x2_0_1_2 (broadcastInDim S10000x8x1 ![0, 1] bcast_S10000x8_S10000x8x1_0_1 p)) transposes_S10000x8x2_S8x10000x2_1_0_2

/-- The points' difference from sixteen centres. -/
def diffs (q : Vec F S10000x2 .f32) (c : Vec F S16x2 .f32) : Vec F S10000x16x2 .f32 :=
  subf (broadcastInDim S10000x16x2 ![0, 1, 2] bcast_S10000x1x2_S10000x16x2_0_1_2 (broadcastInDim S10000x1x2 ![0, 2] bcast_S10000x2_S10000x1x2_0_2 q)) (broadcastInDim S10000x16x2 ![0, 1, 2] bcast_S1x16x2_S10000x16x2_0_1_2 (broadcastInDim S1x16x2 ![1, 2] bcast_S16x2_S1x16x2_1_2 c))

/-- Their distance in the sum norm. -/
def dist1 (q : Vec F S10000x2 .f32) (c : Vec F S16x2 .f32) : Vec F S10000x16 .f32 :=
  Host.reduceAdd (Host.absf (diffs q c)) (constant S_ .f32 0x00000000#32) reducesTo_S10000x16x2_S10000x16_d2 h_S_

/-- The triangle coordinates of the points. -/
def triF (q : Vec F S10000x2 .f32) (t : Vec F S16 .f32) : Vec F S10000x16 .f32 :=
  maximumf (subf (broadcastInDim S10000x16 ![0, 1] bcast_S10000x1_S10000x16_0_1 (extractStridedSlice S10000x1 ![0, 1] q slices_S10000x2_S10000x1_0_1)) (Host.absf (subf (broadcastInDim S10000x16 ![0, 1] bcast_S10000x1_S10000x16_0_1 (extractStridedSlice S10000x1 ![0, 0] q slices_S10000x2_S10000x1_0_0)) (broadcastInDim S10000x16 ![0, 1] bcast_S1x16_S10000x16_0_1 (broadcastInDim S1x16 ![1] bcast_S16_S1x16_1 t))))) (broadcastInDim S10000x16 ![] bcast_S_S10000x16 (constant S_ .f32 0x00000000#32))

/-- The Gaussian coordinates of the points. -/
def gauF (q : Vec F S10000x2 .f32) (c : Vec F S16x2 .f32) : Vec F S10000x16 .f32 :=
  Host.exp (Host.divf (Host.negf (Host.reduceAdd (mulf (diffs q c) (diffs q c)) (constant S_ .f32 0x00000000#32) reducesTo_S10000x16x2_S10000x16_d2 h_S_)) (broadcastInDim S10000x16 ![] bcast_S_S10000x16 (constant S_ .f32 0x40000000#32)))

/-- The line coordinates of the points. -/
def linF (q : Vec F S10000x2 .f32) (w : Vec F S2x16 .f32) (b : Vec F S16 .f32) : Vec F S10000x16 .f32 :=
  addf (Host.dotGeneral dot_S10000x2_S2x16_S10000x16_1_0_0_1_n_n none q w) (broadcastInDim S10000x16 ![0, 1] bcast_S1x16_S10000x16_0_1 (broadcastInDim S1x16 ![1] bcast_S16_S1x16_1 b))

/-- The hat coordinates of the points. -/
def hatF (q : Vec F S10000x2 .f32) (c : Vec F S16x2 .f32) (r : Vec F S1 .f32) : Vec F S10000x16 .f32 :=
  subf (Host.divf (broadcastInDim S10000x16 ![] bcast_S_S10000x16 (constant S_ .f32 0x3F800000#32)) (addf (broadcastInDim S10000x16 ![] bcast_S_S10000x16 (constant S_ .f32 0x3F800000#32)) (dist1 q c))) (Host.divf (broadcastInDim S10000x16 ![] bcast_S_S10000x16 (constant S_ .f32 0x3F800000#32)) (addf (broadcastInDim S10000x16 ![] bcast_S_S10000x16 (constant S_ .f32 0x3F800000#32)) (Host.absf (subf (broadcastInDim S10000x16 ![] bcast_S_S10000x16 (Host.absf (shapeCast _ r shapeCasts_S1_S_))) (dist1 q c)))))

/-- One filtration's sixty-four coordinates: triangle, Gaussian, line and hat points, sixteen each. -/
def coordF (q : Vec F S10000x2 .f32) (t : Vec F S16 .f32) (c : Vec F S16x2 .f32) (w : Vec F S2x16 .f32) (b : Vec F S16 .f32) (h : Vec F S16x2 .f32) (r : Vec F S1 .f32) : Vec F S10000x64 .f32 :=
  concatenate S10000x64 1 [⟨S10000x16, triF q t⟩, ⟨S10000x16, gauF q c⟩, ⟨S10000x16, linF q w b⟩, ⟨S10000x16, hatF q h r⟩] concatenates_S10000x16_S10000x16_S10000x16_S10000x16_S10000x64_d1

/-- The input and the eight filtrations' coordinates through the last linear layer. -/
def outF (x : Vec F S10000x128 .f32) (c0 c1 c2 c3 c4 c5 c6 c7 : Vec F S10000x64 .f32) (ow : Vec F S640x128 .f32) (ob : Vec F S128 .f32) : Vec F S10000x128 .f32 :=
  maximumf (addf (Host.dotGeneral dot_S10000x640_S640x128_S10000x128_1_0_0_1_n_n none
    (concatenate S10000x640 1 [⟨S10000x128, x⟩, ⟨S10000x512, concatenate S10000x512 1 [⟨S10000x64, c0⟩, ⟨S10000x64, c1⟩, ⟨S10000x64, c2⟩, ⟨S10000x64, c3⟩, ⟨S10000x64, c4⟩, ⟨S10000x64, c5⟩, ⟨S10000x64, c6⟩, ⟨S10000x64, c7⟩] concatenates_S10000x64_S10000x64_S10000x64_S10000x64_S10000x64_S10000x64_S10000x64_S10000x64_S10000x512_d1⟩] concatenates_S10000x128_S10000x512_S10000x640_d1) ow)
    (broadcastInDim S10000x128 ![0, 1] bcast_S1x128_S10000x128_0_1 (broadcastInDim S1x128 ![1] bcast_S128_S1x128_1 ob))) (broadcastInDim S10000x128 ![] bcast_S_S10000x128 (constant S_ .f32 0x00000000#32))

end

variable (q : Vec Ideal S10000x2 .f32) (r : Fin 10000) (k : Fin 16)

/-- The network's outputs at an index. -/
theorem pRef_at (x : Vec Ideal S10000x128 .f32) (w1 : Vec Ideal S128x64 .f32) (b1 : Vec Ideal S64 .f32) (w2 : Vec Ideal S64x8 .f32) (b2 : Vec Ideal S8 .f32) (f : Fin 8) :
    pRef x w1 b1 w2 b2 (ix2 r f) = ∑ h : Fin 64, max (∑ k : Fin 128, x (ix2 r k) * w1 (ix2 k h) + b1 (ix1 h)) 0 * w2 (ix2 h f) + b2 (ix1 f) := by
  pointwise [pRef]

/-- The points at an index: both coordinates are the filtration. -/
theorem ptsAll_at (p : Vec Ideal S10000x8 .f32) (f : Fin 8) (d : Fin 2) : ptsAll p (ix3 f r d) = p (ix2 r f) := by
  pointwise [ptsAll]

/-- The triangle coordinates at an index. -/
theorem triF_at (t : Vec Ideal S16 .f32) : triF q t (ix2 r k) = max (q (ix2 r 1) - ab (q (ix2 r 0) - t (ix1 k))) 0 := by
  pointwise [triF]

/-- The Gaussian coordinates at an index. -/
theorem gauF_at (c : Vec Ideal S16x2 .f32) : gauF q c (ix2 r k)
    = Ideal.exp (Ideal.div (-∑ d : Fin 2, (q (ix2 r d) - c (ix2 k d)) * (q (ix2 r d) - c (ix2 k d))) (Ideal.ofBits .f32 0x40000000#32)) := by
  pointwise [gauF, diffs]

/-- The line coordinates at an index. -/
theorem linF_at (c : Vec Ideal S2x16 .f32) (b : Vec Ideal S16 .f32) : linF q c b (ix2 r k) = ∑ d : Fin 2, q (ix2 r d) * c (ix2 d k) + b (ix1 k) := by
  pointwise [linF]

/-- The hat coordinates at an index. -/
theorem hatF_at (c : Vec Ideal S16x2 .f32) (b : Vec Ideal S1 .f32) : hatF q c b (ix2 r k)
    = Ideal.div 1 (1 + ∑ d : Fin 2, ab (q (ix2 r d) - c (ix2 k d)))
      - Ideal.div 1 (1 + ab (ab (b (ix1 0)) - ∑ d : Fin 2, ab (q (ix2 r d) - c (ix2 k d)))) := by
  pointwise [hatF, dist1, diffs]

/-- One filtration's coordinates at an index, by kind and place. -/
theorem coordF_at (t : Vec Ideal S16 .f32) (c : Vec Ideal S16x2 .f32) (w : Vec Ideal S2x16 .f32) (b : Vec Ideal S16 .f32) (h : Vec Ideal S16x2 .f32) (rr : Vec Ideal S1 .f32)
    (A : Args) (ht : ∀ k, t (ix1 k) = A.t k) (hc : ∀ k d, c (ix2 k d) = A.cg k d) (hw : ∀ d k, w (ix2 d k) = A.wl d k) (hb : ∀ k, b (ix1 k) = A.bl k)
    (hh : ∀ k d, h (ix2 k d) = A.ch k d) (hr : rr (ix1 0) = A.rh) (u : EReal) (hq : ∀ d, q (ix2 r d) = u) (g : Fin 4) :
    coordF q t c w b h rr (ix2 r ⟨16 * g.val + k.val, by omega⟩) = A.crdR g u k := by
  obtain ⟨g, hg⟩ := g
  pointwise [coordF]
  interval_cases g
  · rw [dif_pos (by omega)]
    refine (congrArg (fun z => triF q t (ix2 r z)) (Fin.ext (by dsimp only; omega) : _ = k)).trans ?_
    rw [triF_at, hq, hq, ht]; rfl
  · rw [dif_neg (by omega), dif_pos (by omega)]
    refine (congrArg (fun z => gauF q c (ix2 r z)) (Fin.ext (by dsimp only; omega) : _ = k)).trans ?_
    rw [gauF_at, Fin.sum_univ_two, hq, hq, hc, hc]; rfl
  · rw [dif_neg (by omega), dif_neg (by omega), dif_pos (by omega)]
    refine (congrArg (fun z => linF q w b (ix2 r z)) (Fin.ext (by dsimp only; omega) : _ = k)).trans ?_
    rw [linF_at, Fin.sum_univ_two, hq, hq, hw, hw, hb]; rfl
  · rw [dif_neg (by omega), dif_neg (by omega), dif_neg (by omega)]
    refine (congrArg (fun z => hatF q h rr (ix2 r z)) (Fin.ext (by dsimp only; omega) : _ = k)).trans ?_
    rw [hatF_at, Fin.sum_univ_two, hq, hq, hh, hh, hr]; rfl

/-- The eight filtrations' coordinates side by side. -/
theorem catF_at (cs : Fin 8 → Vec Ideal S10000x64 .f32) (f : Fin 8) (y : Fin 64) :
    (concatenate S10000x512 1 [⟨S10000x64, cs 0⟩, ⟨S10000x64, cs 1⟩, ⟨S10000x64, cs 2⟩, ⟨S10000x64, cs 3⟩, ⟨S10000x64, cs 4⟩, ⟨S10000x64, cs 5⟩, ⟨S10000x64, cs 6⟩, ⟨S10000x64, cs 7⟩] concatenates_S10000x64_S10000x64_S10000x64_S10000x64_S10000x64_S10000x64_S10000x64_S10000x64_S10000x512_d1 : Vec Ideal S10000x512 .f32)
      (ix2 r ⟨64 * f.val + y.val, by omega⟩) = cs f (ix2 r y) := by
  obtain ⟨f, hf⟩ := f
  pointwise []
  interval_cases f
  · rw [dif_pos (by omega)]
    exact congrArg (fun z => cs 0 (ix2 r z)) (Fin.ext (by dsimp only; omega) : _ = y)
  · rw [dif_neg (by omega), dif_pos (by omega)]
    exact congrArg (fun z => cs 1 (ix2 r z)) (Fin.ext (by dsimp only; omega) : _ = y)
  · rw [dif_neg (by omega), dif_neg (by omega), dif_pos (by omega)]
    exact congrArg (fun z => cs 2 (ix2 r z)) (Fin.ext (by dsimp only; omega) : _ = y)
  · rw [dif_neg (by omega), dif_neg (by omega), dif_neg (by omega), dif_pos (by omega)]
    exact congrArg (fun z => cs 3 (ix2 r z)) (Fin.ext (by dsimp only; omega) : _ = y)
  · rw [dif_neg (by omega), dif_neg (by omega), dif_neg (by omega), dif_neg (by omega), dif_pos (by omega)]
    exact congrArg (fun z => cs 4 (ix2 r z)) (Fin.ext (by dsimp only; omega) : _ = y)
  · rw [dif_neg (by omega), dif_neg (by omega), dif_neg (by omega), dif_neg (by omega), dif_neg (by omega), dif_pos (by omega)]
    exact congrArg (fun z => cs 5 (ix2 r z)) (Fin.ext (by dsimp only; omega) : _ = y)
  · rw [dif_neg (by omega), dif_neg (by omega), dif_neg (by omega), dif_neg (by omega), dif_neg (by omega), dif_neg (by omega), dif_pos (by omega)]
    exact congrArg (fun z => cs 6 (ix2 r z)) (Fin.ext (by dsimp only; omega) : _ = y)
  · rw [dif_neg (by omega), dif_neg (by omega), dif_neg (by omega), dif_neg (by omega), dif_neg (by omega), dif_neg (by omega), dif_neg (by omega)]
    exact congrArg (fun z => cs 7 (ix2 r z)) (Fin.ext (by dsimp only; omega) : _ = y)

/-- The last linear layer at an index: the input's share, the coordinates' share and the bias. -/
theorem outF_at (x : Vec Ideal S10000x128 .f32) (cs : Fin 8 → Vec Ideal S10000x64 .f32) (ow : Vec Ideal S640x128 .f32) (ob : Vec Ideal S128 .f32) (n : Fin 128) :
    outF x (cs 0) (cs 1) (cs 2) (cs 3) (cs 4) (cs 5) (cs 6) (cs 7) ow ob (ix2 r n) =
      max (∑ k : Fin 128, x (ix2 r k) * ow (ix2 ⟨k.val, by omega⟩ n)
        + ∑ f : Fin 8, ∑ y : Fin 64, cs f (ix2 r y) * ow (ix2 ⟨128 + (64 * f.val + y.val), by omega⟩ n) + ob (ix1 n)) 0 := by
  simp only [← catF_at r cs]
  unfold outF
  generalize concatenate S10000x512 1 [⟨S10000x64, cs 0⟩, ⟨S10000x64, cs 1⟩, ⟨S10000x64, cs 2⟩, ⟨S10000x64, cs 3⟩, ⟨S10000x64, cs 4⟩, ⟨S10000x64, cs 5⟩, ⟨S10000x64, cs 6⟩, ⟨S10000x64, cs 7⟩] concatenates_S10000x64_S10000x64_S10000x64_S10000x64_S10000x64_S10000x64_S10000x64_S10000x64_S10000x512_d1 = cc
  pointwise []
  refine congrArg (max · 0) (congrArg (· + ob (ix1 n)) ?_)
  exact congrArg (_ + ·) (sum_512 _)

end Cert.ReferenceIdeal.Hand
-- ==== Proof.RefAt.lean ====
module

public import proofs.«01_k».proof.Proof.RefCoord

@[expose] public section

set_option maxHeartbeats 1000000

noncomputable section

open Idealize.ShloMosaic Idealize.ShloMosaic.TcCoe Idealize.SL.Sem

namespace Cert.ReferenceIdeal.Hand

open Cert.ReferenceIdeal Cert.ReferenceIdeal.Facts₀ Cert.ReferenceIdeal.Facts Cert.ReferenceIdeal.Value Cert.Hand

variable (V0 : Valuation τ sig (Elt Ideal))

/-- The reference's arguments as functions of their coordinates. -/
def argsOf : Args where
  x := fun i j => (V0 (Proc.devRef .tc main_arg0) : Vec Ideal S10000x128 .f32) (ix2 i j)
  w1 := fun i j => (V0 (Proc.devRef .tc main_arg4) : Vec Ideal S128x64 .f32) (ix2 i j)
  b1 := fun i => (V0 (Proc.devRef .tc main_arg5) : Vec Ideal S64 .f32) (ix1 i)
  w2 := fun i j => (V0 (Proc.devRef .tc main_arg6) : Vec Ideal S64x8 .f32) (ix2 i j)
  b2 := fun i => (V0 (Proc.devRef .tc main_arg7) : Vec Ideal S8 .f32) (ix1 i)
  t := fun i => (V0 (Proc.devRef .tc main_arg8) : Vec Ideal S16 .f32) (ix1 i)
  cg := fun i j => (V0 (Proc.devRef .tc main_arg9) : Vec Ideal S16x2 .f32) (ix2 i j)
  wl := fun i j => (V0 (Proc.devRef .tc main_arg10) : Vec Ideal S2x16 .f32) (ix2 i j)
  bl := fun i => (V0 (Proc.devRef .tc main_arg11) : Vec Ideal S16 .f32) (ix1 i)
  ch := fun i j => (V0 (Proc.devRef .tc main_arg12) : Vec Ideal S16x2 .f32) (ix2 i j)
  rh := (V0 (Proc.devRef .tc main_arg13) : Vec Ideal S1 .f32) (ix1 0)
  ow := fun i j => (V0 (Proc.devRef .tc main_arg14) : Vec Ideal S640x128 .f32) (ix2 i j)
  ob := fun i => (V0 (Proc.devRef .tc main_arg15) : Vec Ideal S128 .f32) (ix1 i)

/-- All filtrations' points are the network's outputs, rearranged. -/
theorem v11_eq : (res_main_v11 V0 : Vec Ideal S8x10000x2 .f32) = ptsAll (pRef (V0 (Proc.devRef .tc main_arg0)) (V0 (Proc.devRef .tc main_arg4)) (V0 (Proc.devRef .tc main_arg5)) (V0 (Proc.devRef .tc main_arg6)) (V0 (Proc.devRef .tc main_arg7))) := rfl

/-- A point of a filtration at an index. -/
theorem v11_at (f : Fin 8) (r : Fin 10000) (d : Fin 2) : (res_main_v11 V0 : Vec Ideal S8x10000x2 .f32) (ix3 f r d) = (argsOf V0).v r f := by
  rw [v11_eq, ptsAll_at, pRef_at]
  rfl

/-- One filtration's points: a slice of all of them. -/
theorem slice_at (p : Vec Ideal S8x10000x2 .f32) (f : Fin 8) (h : S8x10000x2.Slices ![f.val, 0, 0] S1x10000x2) (r : Fin 10000) (d : Fin 2) :
    (shapeCast S10000x2 (extractStridedSlice S1x10000x2 ![f.val, 0, 0] p h) shapeCasts_S1x10000x2_S10000x2 : Vec Ideal S10000x2 .f32) (ix2 r d) = p (ix3 f r d) := by
  pointwise []

/-- The eight filtrations' points. -/
def qs : Fin 8 → Vec Ideal S10000x2 .f32 :=
  ![res_main_v13 V0, res_main_v62 V0, res_main_v111 V0, res_main_v160 V0, res_main_v209 V0, res_main_v258 V0, res_main_v307 V0, res_main_v356 V0]

/-- Both coordinates of a filtration's point are the filtration. -/
theorem qs_at (f : Fin 8) (r : Fin 10000) (d : Fin 2) : qs V0 f (ix2 r d) = (argsOf V0).v r f := by
  rw [← v11_at V0 f r d]
  match f with
  | 0 => exact slice_at (res_main_v11 V0) 0 slices_S8x10000x2_S1x10000x2_0_0_0 r d
  | 1 => exact slice_at (res_main_v11 V0) 1 slices_S8x10000x2_S1x10000x2_1_0_0 r d
  | 2 => exact slice_at (res_main_v11 V0) 2 slices_S8x10000x2_S1x10000x2_2_0_0 r d
  | 3 => exact slice_at (res_main_v11 V0) 3 slices_S8x10000x2_S1x10000x2_3_0_0 r d
  | 4 => exact slice_at (res_main_v11 V0) 4 slices_S8x10000x2_S1x10000x2_4_0_0 r d
  | 5 => exact slice_at (res_main_v11 V0) 5 slices_S8x10000x2_S1x10000x2_5_0_0 r d
  | 6 => exact slice_at (res_main_v11 V0) 6 slices_S8x10000x2_S1x10000x2_6_0_0 r d
  | 7 => exact slice_at (res_main_v11 V0) 7 slices_S8x10000x2_S1x10000x2_7_0_0 r d

/-- The eight filtrations' coordinates. -/
def crds (f : Fin 8) : Vec Ideal S10000x64 .f32 := coordF (qs V0 f) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))

/-- The reference's result: the last layer over the eight filtrations' coordinates. -/
theorem out_eq : (maximumf (addf (Host.dotGeneral (φ₁ := .f32) (φ₂ := .f32) dot_S10000x640_S640x128_S10000x128_1_0_0_1_n_n none (concatenate S10000x640 1 [⟨S10000x128, (V0 (Proc.devRef .tc main_arg0))⟩, ⟨S10000x512, (res_main_v404 V0)⟩] concatenates_S10000x128_S10000x512_S10000x640_d1) (V0 (Proc.devRef .tc main_arg14) : Vec Ideal S640x128 .f32)) (broadcastInDim S10000x128 ![0, 1] bcast_S1x128_S10000x128_0_1 (broadcastInDim S1x128 ![1] bcast_S128_S1x128_1 (V0 (Proc.devRef .tc main_arg15))))) (broadcastInDim S10000x128 ![] bcast_S_S10000x128 (constant S_ .f32 0x00000000#32)) : Vec Ideal S10000x128 .f32)
    = outF (V0 (Proc.devRef .tc main_arg0)) (crds V0 0) (crds V0 1) (crds V0 2) (crds V0 3) (crds V0 4) (crds V0 5) (crds V0 6) (crds V0 7) (V0 (Proc.devRef .tc main_arg14)) (V0 (Proc.devRef .tc main_arg15)) := rfl

/-- The last layer's value at an index, in the reference's order. -/
theorem out_at (r : Fin 10000) (n : Fin 128) :
    outF (V0 (Proc.devRef .tc main_arg0)) (crds V0 0) (crds V0 1) (crds V0 2) (crds V0 3) (crds V0 4) (crds V0 5) (crds V0 6) (crds V0 7) (V0 (Proc.devRef .tc main_arg14)) (V0 (Proc.devRef .tc main_arg15)) (ix2 r n) = (argsOf V0).rOut r n := by
  rw [outF_at]
  unfold Args.rOut
  refine congrArg (max · 0) (congrArg₂ (· + ·) (congrArg (_ + ·) ?_) rfl)
  refine Finset.sum_congr rfl fun f _ => ?_
  rw [sum_64]
  refine Finset.sum_congr rfl fun g _ => Finset.sum_congr rfl fun k _ => ?_
  exact congrArg (· * _) (coordF_at (qs V0 f) r k (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (argsOf V0) (fun _ => rfl) (fun _ _ => rfl) (fun _ _ => rfl)
    (fun _ => rfl) (fun _ _ => rfl) rfl _ (qs_at V0 f r) g)

end Cert.ReferenceIdeal.Hand
-- ==== Proof.lean ====
/- The claims of this certificate from their parts: the frames from the generated runs, the value claim from the kernel's
   result at an index, the reference's at an index, and the equation of the two under the precondition. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Pre
public import proofs.«01_k».proof.Proof.RefAt
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.Hand.preFacts

/-- The reference's frame: its run weakened. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem quiescent_ReferenceIdeal_pre : quiescent_ReferenceIdeal_pre_mlp_finite := fun m ρ _ =>
  quiescent_ReferenceIdeal m ρ trivial

/-- The two programs' arguments are the same where their memories agree on them. -/
theorem args_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h0 : V0 (Proc.devRef .tc Cert.ReferenceIdeal.main_arg0) = m ((c.tc : Thread Cert.KernelIdeal.nD Cert.KernelIdeal.τ).loc Cert.KernelIdeal.main_arg0))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10))
    (h11 : V0 (Proc.devRef .tc Cert.ReferenceIdeal.main_arg11) = m ((c.tc : Thread Cert.KernelIdeal.nD Cert.KernelIdeal.τ).loc Cert.KernelIdeal.main_arg11))
    (h12 : V0 (Proc.devRef .tc Cert.ReferenceIdeal.main_arg12) = m ((c.tc : Thread Cert.KernelIdeal.nD Cert.KernelIdeal.τ).loc Cert.KernelIdeal.main_arg12))
    (h13 : V0 (Proc.devRef .tc Cert.ReferenceIdeal.main_arg13) = m ((c.tc : Thread Cert.KernelIdeal.nD Cert.KernelIdeal.τ).loc Cert.KernelIdeal.main_arg13))
    (h14 : V0 (Proc.devRef .tc Cert.ReferenceIdeal.main_arg14) = m ((c.tc : Thread Cert.KernelIdeal.nD Cert.KernelIdeal.τ).loc Cert.KernelIdeal.main_arg14))
    (h15 : V0 (Proc.devRef .tc Cert.ReferenceIdeal.main_arg15) = m ((c.tc : Thread Cert.KernelIdeal.nD Cert.KernelIdeal.τ).loc Cert.KernelIdeal.main_arg15)) :
    Cert.ReferenceIdeal.Hand.argsOf V0 = Cert.KernelIdeal.Hand.argsOf m c := by
  unfold Cert.ReferenceIdeal.Hand.argsOf Cert.KernelIdeal.Hand.argsOf
  rw [h0, h4, h5, h6, h7, h8, h9, h10, h11, h12, h13, h14, h15]

/-- The value claim: the result arrays are equal. -/
theorem algebraic : algebraic_KernelIdeal_ReferenceIdeal_pre_mlp_finite := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Hand.out_eq (StableHlo.launchContents m' c)).trans ?_
  obtain ⟨h0, _, _, _, h4, h5, h6, h7, h8, h9, h10, h11, h12, h13, h14, h15⟩ := hagree c
  have e := args_eq m (StableHlo.launchContents m' c) c h0 h4 h5 h6 h7 h8 h9 h10 h11 h12 h13 h14 h15
  funext i
  obtain ⟨r, n, rfl⟩ : ∃ (r : Fin 10000) (n : Fin 128), i = ix2 r n := ⟨i 0, i 1, eq_ix2 i⟩
  refine (Cert.ReferenceIdeal.Hand.out_at _ r n).trans ?_
  refine Eq.trans ?_ (Cert.KernelIdeal.Hand.G8_at m c r n).symm
  rw [e]
  exact (Cert.Hand.finite_of_pre m hpre c).out_eq r n

/-- All the claims of this certificate. -/
theorem claim : Cert.Claim := ⟨Cert.Kernel.Gen.facts, Cert.KernelIdeal.Gen.facts, Cert.ReferenceIdeal.Gen.facts, Cert.Hand.preFacts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre, (trivial : preserves_Kernel_KernelIdeal), algebraic⟩

end Cert.Proof

end
